-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S256x256 : Shape := ⟨2, ![256, 256]⟩
abbrev S31 : Shape := ⟨1, ![31]⟩
abbrev S_ : Shape := ⟨0, ![]⟩
abbrev S1x2 : Shape := ⟨2, ![1, 2]⟩
abbrev S256x2 : Shape := ⟨2, ![256, 2]⟩
abbrev S256x8 : Shape := ⟨2, ![256, 8]⟩
abbrev S1x8 : Shape := ⟨2, ![1, 8]⟩
abbrev S8x128 : Shape := ⟨2, ![8, 128]⟩
abbrev S4x128 : Shape := ⟨2, ![4, 128]⟩
abbrev S1x128x256 : Shape := ⟨3, ![1, 128, 256]⟩
abbrev S128x256 : Shape := ⟨2, ![128, 256]⟩
abbrev S4x256 : Shape := ⟨2, ![4, 256]⟩
abbrev S8x256 : Shape := ⟨2, ![8, 256]⟩
abbrev S1 : Shape := ⟨1, ![1]⟩
abbrev S256x64 : Shape := ⟨2, ![256, 64]⟩
abbrev S256 : Shape := ⟨1, ![256]⟩

abbrev nBuf : Space → Nat
  | .hbm => 5
  | .vmem => 5
  | .smem => 0
  | _ => 0

abbrev bufTy : (tb : Table) → Fin (tcTables nBuf tb) → BufTy
  | .hbm, ⟨0, _⟩ => ⟨S256x128, .f32⟩
  | .hbm, ⟨1, _⟩ => ⟨S128x64, .f32⟩
  | .hbm, ⟨2, _⟩ => ⟨S256x1, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S256x1, .i32⟩
  | .local _ .vmem, ⟨2, _⟩ => ⟨S2x128x256, .f32⟩
  | .local _ .vmem, ⟨3, _⟩ => ⟨S256x256, .f32⟩
  | .local _ .vmem, ⟨4, _⟩ => ⟨S256x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_146 : BitVec 32 := 8#32
  let v203 : BitVec 32 := Scalar.muli v2 c8_i32_146
  let v204 : Index := Scalar.indexCast v203
  let c0_147 : Index := 0#32
  ![v204.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_149 : BitVec 32 := 8#32
  let v208 : BitVec 32 := Scalar.muli v2 c8_i32_149
  let c0_i32_156 : BitVec 32 := 0#32
  ![v208.toNat, 0]
def k0_dev32 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_150 : BitVec 32 := 1#32
  let v209 : BitVec 32 := Scalar.addi v2 c1_i32_150
  let c32_i32_151 : BitVec 32 := 32#32
  let v210 : BitVec 32 := Scalar.remsi v209 c32_i32_151
  let c1_i32_154 : BitVec 32 := 1#32
  let v211 : BitVec 32 := Scalar.muli v210 c1_i32_154
  let v212 : BitVec 32 := Scalar.addi c0_i32_155 v211
  v212.toNat
def k0_dev33 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_158 : BitVec 32 := 2#32
  let v219 : BitVec 32 := Scalar.addi v2 c2_i32_158
  let c32_i32_159 : BitVec 32 := 32#32
  let v220 : BitVec 32 := Scalar.remsi v219 c32_i32_159
  let c1_i32_162 : BitVec 32 := 1#32
  let v221 : BitVec 32 := Scalar.muli v220 c1_i32_162
  let v222 : BitVec 32 := Scalar.addi c0_i32_163 v221
  v222.toNat
def k0_dev34 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_166 : BitVec 32 := 3#32
  let v229 : BitVec 32 := Scalar.addi v2 c3_i32_166
  let c32_i32_167 : BitVec 32 := 32#32
  let v230 : BitVec 32 := Scalar.remsi v229 c32_i32_167
  let c1_i32_170 : BitVec 32 := 1#32
  let v231 : BitVec 32 := Scalar.muli v230 c1_i32_170
  let v232 : BitVec 32 := Scalar.addi c0_i32_171 v231
  v232.toNat
def k0_dev35 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_174 : BitVec 32 := 4#32
  let v239 : BitVec 32 := Scalar.addi v2 c4_i32_174
  let c32_i32_175 : BitVec 32 := 32#32
  let v240 : BitVec 32 := Scalar.remsi v239 c32_i32_175
  let c1_i32_178 : BitVec 32 := 1#32
  let v241 : BitVec 32 := Scalar.muli v240 c1_i32_178
  let v242 : BitVec 32 := Scalar.addi c0_i32_179 v241
  v242.toNat
def k0_dev36 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_182 : BitVec 32 := 5#32
  let v249 : BitVec 32 := Scalar.addi v2 c5_i32_182
  let c32_i32_183 : BitVec 32 := 32#32
  let v250 : BitVec 32 := Scalar.remsi v249 c32_i32_183
  let c1_i32_186 : BitVec 32 := 1#32
  let v251 : BitVec 32 := Scalar.muli v250 c1_i32_186
  let v252 : BitVec 32 := Scalar.addi c0_i32_187 v251
  v252.toNat
def k0_dev37 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_190 : BitVec 32 := 6#32
  let v259 : BitVec 32 := Scalar.addi v2 c6_i32_190
  let c32_i32_191 : BitVec 32 := 32#32
  let v260 : BitVec 32 := Scalar.remsi v259 c32_i32_191
  let c1_i32_194 : BitVec 32 := 1#32
  let v261 : BitVec 32 := Scalar.muli v260 c1_i32_194
  let v262 : BitVec 32 := Scalar.addi c0_i32_195 v261
  v262.toNat
def k0_dev38 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_198 : BitVec 32 := 7#32
  let v269 : BitVec 32 := Scalar.addi v2 c7_i32_198
  let c32_i32_199 : BitVec 32 := 32#32
  let v270 : BitVec 32 := Scalar.remsi v269 c32_i32_199
  let c1_i32_202 : BitVec 32 := 1#32
  let v271 : BitVec 32 := Scalar.muli v270 c1_i32_202
  let v272 : BitVec 32 := Scalar.addi c0_i32_203 v271
  v272.toNat
def k0_dev39 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_206 : BitVec 32 := 8#32
  let v279 : BitVec 32 := Scalar.addi v2 c8_i32_206
  let c32_i32_207 : BitVec 32 := 32#32
  let v280 : BitVec 32 := Scalar.remsi v279 c32_i32_207
  let c1_i32_210 : BitVec 32 := 1#32
  let v281 : BitVec 32 := Scalar.muli v280 c1_i32_210
  let v282 : BitVec 32 := Scalar.addi c0_i32_211 v281
  v282.toNat
def k0_dev40 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_214 : BitVec 32 := 9#32
  let v289 : BitVec 32 := Scalar.addi v2 c9_i32_214
  let c32_i32_215 : BitVec 32 := 32#32
  let v290 : BitVec 32 := Scalar.remsi v289 c32_i32_215
  let c1_i32_218 : BitVec 32 := 1#32
  let v291 : BitVec 32 := Scalar.muli v290 c1_i32_218
  let v292 : BitVec 32 := Scalar.addi c0_i32_219 v291
  v292.toNat
def k0_dev41 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_222 : BitVec 32 := 10#32
  let v299 : BitVec 32 := Scalar.addi v2 c10_i32_222
  let c32_i32_223 : BitVec 32 := 32#32
  let v300 : BitVec 32 := Scalar.remsi v299 c32_i32_223
  let c1_i32_226 : BitVec 32 := 1#32
  let v301 : BitVec 32 := Scalar.muli v300 c1_i32_226
  let v302 : BitVec 32 := Scalar.addi c0_i32_227 v301
  v302.toNat
def k0_dev42 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_230 : BitVec 32 := 11#32
  let v309 : BitVec 32 := Scalar.addi v2 c11_i32_230
  let c32_i32_231 : BitVec 32 := 32#32
  let v310 : BitVec 32 := Scalar.remsi v309 c32_i32_231
  let c1_i32_234 : BitVec 32 := 1#32
  let v311 : BitVec 32 := Scalar.muli v310 c1_i32_234
  let v312 : BitVec 32 := Scalar.addi c0_i32_235 v311
  v312.toNat
def k0_dev43 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_238 : BitVec 32 := 12#32
  let v319 : BitVec 32 := Scalar.addi v2 c12_i32_238
  let c32_i32_239 : BitVec 32 := 32#32
  let v320 : BitVec 32 := Scalar.remsi v319 c32_i32_239
  let c1_i32_242 : BitVec 32 := 1#32
  let v321 : BitVec 32 := Scalar.muli v320 c1_i32_242
  let v322 : BitVec 32 := Scalar.addi c0_i32_243 v321
  v322.toNat
def k0_dev44 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_246 : BitVec 32 := 13#32
  let v329 : BitVec 32 := Scalar.addi v2 c13_i32_246
  let c32_i32_247 : BitVec 32 := 32#32
  let v330 : BitVec 32 := Scalar.remsi v329 c32_i32_247
  let c1_i32_250 : BitVec 32 := 1#32
  let v331 : BitVec 32 := Scalar.muli v330 c1_i32_250
  let v332 : BitVec 32 := Scalar.addi c0_i32_251 v331
  v332.toNat
def k0_dev45 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_254 : BitVec 32 := 14#32
  let v339 : BitVec 32 := Scalar.addi v2 c14_i32_254
  let c32_i32_255 : BitVec 32 := 32#32
  let v340 : BitVec 32 := Scalar.remsi v339 c32_i32_255
  let c1_i32_258 : BitVec 32 := 1#32
  let v341 : BitVec 32 := Scalar.muli v340 c1_i32_258
  let v342 : BitVec 32 := Scalar.addi c0_i32_259 v341
  v342.toNat
def k0_dev46 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_262 : BitVec 32 := 15#32
  let v349 : BitVec 32 := Scalar.addi v2 c15_i32_262
  let c32_i32_263 : BitVec 32 := 32#32
  let v350 : BitVec 32 := Scalar.remsi v349 c32_i32_263
  let c1_i32_266 : BitVec 32 := 1#32
  let v351 : BitVec 32 := Scalar.muli v350 c1_i32_266
  let v352 : BitVec 32 := Scalar.addi c0_i32_267 v351
  v352.toNat
def k0_dev47 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_270 : BitVec 32 := 16#32
  let v359 : BitVec 32 := Scalar.addi v2 c16_i32_270
  let c32_i32_271 : BitVec 32 := 32#32
  let v360 : BitVec 32 := Scalar.remsi v359 c32_i32_271
  let c1_i32_274 : BitVec 32 := 1#32
  let v361 : BitVec 32 := Scalar.muli v360 c1_i32_274
  let v362 : BitVec 32 := Scalar.addi c0_i32_275 v361
  v362.toNat
def k0_dev48 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_278 : BitVec 32 := 17#32
  let v369 : BitVec 32 := Scalar.addi v2 c17_i32_278
  let c32_i32_279 : BitVec 32 := 32#32
  let v370 : BitVec 32 := Scalar.remsi v369 c32_i32_279
  let c1_i32_282 : BitVec 32 := 1#32
  let v371 : BitVec 32 := Scalar.muli v370 c1_i32_282
  let v372 : BitVec 32 := Scalar.addi c0_i32_283 v371
  v372.toNat
def k0_dev49 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_286 : BitVec 32 := 18#32
  let v379 : BitVec 32 := Scalar.addi v2 c18_i32_286
  let c32_i32_287 : BitVec 32 := 32#32
  let v380 : BitVec 32 := Scalar.remsi v379 c32_i32_287
  let c1_i32_290 : BitVec 32 := 1#32
  let v381 : BitVec 32 := Scalar.muli v380 c1_i32_290
  let v382 : BitVec 32 := Scalar.addi c0_i32_291 v381
  v382.toNat
def k0_dev50 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_294 : BitVec 32 := 19#32
  let v389 : BitVec 32 := Scalar.addi v2 c19_i32_294
  let c32_i32_295 : BitVec 32 := 32#32
  let v390 : BitVec 32 := Scalar.remsi v389 c32_i32_295
  let c1_i32_298 : BitVec 32 := 1#32
  let v391 : BitVec 32 := Scalar.muli v390 c1_i32_298
  let v392 : BitVec 32 := Scalar.addi c0_i32_299 v391
  v392.toNat
def k0_dev51 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_302 : BitVec 32 := 20#32
  let v399 : BitVec 32 := Scalar.addi v2 c20_i32_302
  let c32_i32_303 : BitVec 32 := 32#32
  let v400 : BitVec 32 := Scalar.remsi v399 c32_i32_303
  let c1_i32_306 : BitVec 32 := 1#32
  let v401 : BitVec 32 := Scalar.muli v400 c1_i32_306
  let v402 : BitVec 32 := Scalar.addi c0_i32_307 v401
  v402.toNat
def k0_dev52 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_310 : BitVec 32 := 21#32
  let v409 : BitVec 32 := Scalar.addi v2 c21_i32_310
  let c32_i32_311 : BitVec 32 := 32#32
  let v410 : BitVec 32 := Scalar.remsi v409 c32_i32_311
  let c1_i32_314 : BitVec 32 := 1#32
  let v411 : BitVec 32 := Scalar.muli v410 c1_i32_314
  let v412 : BitVec 32 := Scalar.addi c0_i32_315 v411
  v412.toNat
def k0_dev53 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_318 : BitVec 32 := 22#32
  let v419 : BitVec 32 := Scalar.addi v2 c22_i32_318
  let c32_i32_319 : BitVec 32 := 32#32
  let v420 : BitVec 32 := Scalar.remsi v419 c32_i32_319
  let c1_i32_322 : BitVec 32 := 1#32
  let v421 : BitVec 32 := Scalar.muli v420 c1_i32_322
  let v422 : BitVec 32 := Scalar.addi c0_i32_323 v421
  v422.toNat
def k0_dev54 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_326 : BitVec 32 := 23#32
  let v429 : BitVec 32 := Scalar.addi v2 c23_i32_326
  let c32_i32_327 : BitVec 32 := 32#32
  let v430 : BitVec 32 := Scalar.remsi v429 c32_i32_327
  let c1_i32_330 : BitVec 32 := 1#32
  let v431 : BitVec 32 := Scalar.muli v430 c1_i32_330
  let v432 : BitVec 32 := Scalar.addi c0_i32_331 v431
  v432.toNat
def k0_dev55 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_334 : BitVec 32 := 24#32
  let v439 : BitVec 32 := Scalar.addi v2 c24_i32_334
  let c32_i32_335 : BitVec 32 := 32#32
  let v440 : BitVec 32 := Scalar.remsi v439 c32_i32_335
  let c1_i32_338 : BitVec 32 := 1#32
  let v441 : BitVec 32 := Scalar.muli v440 c1_i32_338
  let v442 : BitVec 32 := Scalar.addi c0_i32_339 v441
  v442.toNat
def k0_dev56 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_342 : BitVec 32 := 25#32
  let v449 : BitVec 32 := Scalar.addi v2 c25_i32_342
  let c32_i32_343 : BitVec 32 := 32#32
  let v450 : BitVec 32 := Scalar.remsi v449 c32_i32_343
  let c1_i32_346 : BitVec 32 := 1#32
  let v451 : BitVec 32 := Scalar.muli v450 c1_i32_346
  let v452 : BitVec 32 := Scalar.addi c0_i32_347 v451
  v452.toNat
def k0_dev57 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_350 : BitVec 32 := 26#32
  let v459 : BitVec 32 := Scalar.addi v2 c26_i32_350
  let c32_i32_351 : BitVec 32 := 32#32
  let v460 : BitVec 32 := Scalar.remsi v459 c32_i32_351
  let c1_i32_354 : BitVec 32 := 1#32
  let v461 : BitVec 32 := Scalar.muli v460 c1_i32_354
  let v462 : BitVec 32 := Scalar.addi c0_i32_355 v461
  v462.toNat
def k0_dev58 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_358 : BitVec 32 := 27#32
  let v469 : BitVec 32 := Scalar.addi v2 c27_i32_358
  let c32_i32_359 : BitVec 32 := 32#32
  let v470 : BitVec 32 := Scalar.remsi v469 c32_i32_359
  let c1_i32_362 : BitVec 32 := 1#32
  let v471 : BitVec 32 := Scalar.muli v470 c1_i32_362
  let v472 : BitVec 32 := Scalar.addi c0_i32_363 v471
  v472.toNat
def k0_dev59 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_366 : BitVec 32 := 28#32
  let v479 : BitVec 32 := Scalar.addi v2 c28_i32_366
  let c32_i32_367 : BitVec 32 := 32#32
  let v480 : BitVec 32 := Scalar.remsi v479 c32_i32_367
  let c1_i32_370 : BitVec 32 := 1#32
  let v481 : BitVec 32 := Scalar.muli v480 c1_i32_370
  let v482 : BitVec 32 := Scalar.addi c0_i32_371 v481
  v482.toNat
def k0_dev60 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_374 : BitVec 32 := 29#32
  let v489 : BitVec 32 := Scalar.addi v2 c29_i32_374
  let c32_i32_375 : BitVec 32 := 32#32
  let v490 : BitVec 32 := Scalar.remsi v489 c32_i32_375
  let c1_i32_378 : BitVec 32 := 1#32
  let v491 : BitVec 32 := Scalar.muli v490 c1_i32_378
  let v492 : BitVec 32 := Scalar.addi c0_i32_379 v491
  v492.toNat
def k0_dev61 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_382 : BitVec 32 := 30#32
  let v499 : BitVec 32 := Scalar.addi v2 c30_i32_382
  let c32_i32_383 : BitVec 32 := 32#32
  let v500 : BitVec 32 := Scalar.remsi v499 c32_i32_383
  let c1_i32_386 : BitVec 32 := 1#32
  let v501 : BitVec 32 := Scalar.muli v500 c1_i32_386
  let v502 : BitVec 32 := Scalar.addi c0_i32_387 v501
  v502.toNat
def k0_dev62 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_390 : BitVec 32 := 31#32
  let v509 : BitVec 32 := Scalar.addi v2 c31_i32_390
  let c32_i32_391 : BitVec 32 := 32#32
  let v510 : BitVec 32 := Scalar.remsi v509 c32_i32_391
  let c1_i32_394 : BitVec 32 := 1#32
  let v511 : BitVec 32 := Scalar.muli v510 c1_i32_394
  let v512 : BitVec 32 := Scalar.addi c0_i32_395 v511
  v512.toNat
def k0_off3 (d0 : Dev nD) (c1_i32_407 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v550 : BitVec 32 := Scalar.subi v2 c1_i32_407
  let c32_i32_408 : BitVec 32 := 32#32
  let v551 : BitVec 32 := Scalar.addi v550 c32_i32_408
  let c32_i32_409 : BitVec 32 := 32#32
  let v552 : BitVec 32 := Scalar.remsi v551 c32_i32_409
  let c8_i32_410 : BitVec 32 := 8#32
  let v553 : BitVec 32 := Scalar.muli v552 c8_i32_410
  let c0_i32_415 : BitVec 32 := 0#32
  ![v553.toNat, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x64 : Shape := ⟨2, ![128, 64]⟩
abbrev S256x1 : Shape := ⟨2, ![256, 1]⟩
abbrev S64x128x256 : Shape := ⟨3, ![64, 128, 256]⟩
abbrev S256 : Shape := ⟨1, ![256]⟩
abbrev S1x256 : Shape := ⟨2, ![1, 256]⟩
abbrev S256x256 : Shape := ⟨2, ![256, 256]⟩
abbrev S_ : Shape := ⟨0, ![]⟩
abbrev S256x128x256 : Shape := ⟨3, ![256, 128, 256]⟩

abbrev nBuf : Space → Nat
  | .hbm => 47
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x64, .f32⟩
  | .hbm, ⟨2, _⟩ => ⟨S256x1, .i32⟩
  | .hbm, ⟨3, _⟩ => ⟨S64x128x256, .f32⟩
  | .hbm, ⟨4, _⟩ => ⟨S256, .i32⟩
  | .hbm, ⟨5, _⟩ => ⟨S256, .i32⟩
  | .hbm, ⟨6, _⟩ => ⟨S1x256, .i32⟩
  | .hbm, ⟨7, _⟩ => ⟨S256x1, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S1x256, .i32⟩
  | .hbm, ⟨12, _⟩ => ⟨S256x1, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .i1⟩
  | .hbm, ⟨17, _⟩ => ⟨S256x256, .i32⟩
  | .hbm, ⟨18, _⟩ => ⟨S_, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S256, .i1⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256x1, .i32⟩
  | .hbm, ⟨39, _⟩ => ⟨S256x128x256, .f32⟩
  | .hbm, ⟨40, _⟩ => ⟨S256x256, .f32⟩
  | .hbm, ⟨41, _⟩ => ⟨S256x1, .i1⟩
  | .hbm, ⟨42, _⟩ => ⟨S_, .f32⟩
  | .hbm, ⟨43, _⟩ => ⟨S_, .f32⟩
  | .hbm, ⟨44, _⟩ => ⟨S256x256, .i1⟩
  | .hbm, ⟨45, _⟩ => ⟨S256x256, .f32⟩
  | .hbm, ⟨46, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.Ring.lean ====
/-
# The exchange: devices, cells, blocks and the schedule of the ring

Thirty-two devices exchange eight rows each. Device `c` signals every other device that its own landing buffer may be
written, waits until every other device has said the same, sends its eight rows to the device `o + 1` places further for
each of the thirty-one offsets `o`, waits for the thirty-one blocks that the others send it, and waits until its own
sends are done.

This file states the offsets (`peer`, `sender`), the semaphore cells, the row blocks of the landing buffer, the one
gathered array `gath` that every device ends up holding, and the schedule of the semaphores' rounds.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.ValueKit.Geometry
public import Idealize.ShloMosaic.Lib.Pointwise.Index
public import Idealize.ShloMosaic.Lib.ShareLeaves
public import Idealize.ShloMosaic.Lib.Tactic

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's copy and the ring's, whose duties are named by the paying device -/

/-- The exchange's ghost state: rounds of duties, paid by devices. -/
abbrev UB : Type := URounds (GSem nD τ sig) (Dev nD)
/-- The whole ghost state: the staging's and the exchange's. -/
abbrev UU : Type := UR sig nD τ × UB

local notation "𝕄" => MT nD τ sig Unit (Elt F) ℕ UU ℕ

/-- The staging's part of the ghost state. -/
abbrev EP : Emb (UR sig nD τ) (MT nD τ sig Unit (Elt F) ℕ UU ℕ) := embL
/-- The exchange's part of the ghost state. -/
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def start₀ : MemSt nD τ sig (Elt F) := ⟨m, fun _ => 0, ρ⟩

/-! ## Offsets around the ring -/

/-- The device `o + 1` places after `c`. -/
def peer (c : Dev nD) (o : ℕ) : Dev nD := ⟨(c.val + (o + 1)) % 32, Nat.mod_lt _ (by decide)⟩
/-- The device `o + 1` places before `c`. -/
def sender (c : Dev nD) (o : ℕ) : Dev nD := ⟨(c.val + (31 - o)) % 32, Nat.mod_lt _ (by decide)⟩

/-- A device number is below 32. -/
theorem dev_lt (c : Dev nD) : c.val < 32 := c.isLt

/-- A device is the peer of its sender. -/
theorem peer_sender (c : Dev nD) {o : ℕ} (h : o < 31) : peer (sender c o) o = c := by
  have := dev_lt c
  refine Fin.ext ?_
  show ((c.val + (31 - o)) % 32 + (o + 1)) % 32 = c.val
  omega
/-- A device is the sender of its peer. -/
theorem sender_peer (c : Dev nD) {o : ℕ} (h : o < 31) : sender (peer c o) o = c := by
  have := dev_lt c
  refine Fin.ext ?_
  show ((c.val + (o + 1)) % 32 + (31 - o)) % 32 = c.val
  omega
/-- A device is not its own peer. -/
theorem peer_ne (c : Dev nD) {o : ℕ} (h : o < 31) : peer c o ≠ c := by
  intro e
  have := dev_lt c
  have := congrArg Fin.val e
  change (c.val + (o + 1)) % 32 = c.val at this
  omega
/-- A device is not its own sender. -/
theorem sender_ne (c : Dev nD) {o : ℕ} (h : o < 31) : sender c o ≠ c := by
  intro e
  have := dev_lt c
  have := congrArg Fin.val e
  change (c.val + (31 - o)) % 32 = c.val at this
  omega
/-- Different offsets give different peers. -/
theorem peer_inj (c : Dev nD) {o o' : ℕ} (h : o < 31) (h' : o' < 31) (e : peer c o = peer c o') : o = o' := by
  have := dev_lt c
  have := congrArg Fin.val e
  change (c.val + (o + 1)) % 32 = (c.val + (o' + 1)) % 32 at this
  omega
/-- Different offsets give different senders. -/
theorem sender_inj (c : Dev nD) {o o' : ℕ} (h : o < 31) (h' : o' < 31) (e : sender c o = sender c o') : o = o' := by
  have := dev_lt c
  have := congrArg Fin.val e
  change (c.val + (31 - o)) % 32 = (c.val + (31 - o')) % 32 at this
  omega

/-- Shifting every device `o + 1` places forward, as a permutation. -/
def shift (o : ℕ) (h : o < 31) : Dev nD ≃ Dev nD :=
  ⟨fun c => peer c o, fun c => sender c o, fun c => sender_peer c h, fun c => peer_sender c h⟩

/-- The peers are all other devices. -/
theorem image_peer (c : Dev nD) : (Finset.range 31).image (peer c) = Finset.univ.erase c := by
  refine Finset.eq_of_subset_of_card_le ?_ ?_
  · intro d hd
    obtain ⟨o, ho, rfl⟩ := Finset.mem_image.mp hd
    exact Finset.mem_erase.mpr ⟨peer_ne c (Finset.mem_range.mp ho), Finset.mem_univ _⟩
  · rw [Finset.card_image_of_injOn fun o h o' h' e => peer_inj c (Finset.mem_range.mp h) (Finset.mem_range.mp h') e,
      Finset.card_erase_of_mem (Finset.mem_univ _), Finset.card_univ, Finset.card_range, Fintype.card_fin]; decide
/-- The senders are all other devices. -/
theorem image_sender (c : Dev nD) : (Finset.range 31).image (sender c) = Finset.univ.erase c := by
  refine Finset.eq_of_subset_of_card_le ?_ ?_
  · intro d hd
    obtain ⟨o, ho, rfl⟩ := Finset.mem_image.mp hd
    exact Finset.mem_erase.mpr ⟨sender_ne c (Finset.mem_range.mp ho), Finset.mem_univ _⟩
  · rw [Finset.card_image_of_injOn fun o h o' h' e => sender_inj c (Finset.mem_range.mp h) (Finset.mem_range.mp h') e,
      Finset.card_erase_of_mem (Finset.mem_univ _), Finset.card_univ, Finset.card_range, Fintype.card_fin]; decide

/-- A family over the devices other than `c`, by how far after `c` they stand. -/
theorem others_peer (c : Dev nD) (Φ : Dev nD → sProp 𝕄) :
    bigSep (Finset.univ.erase c) Φ = bigSep (Finset.range 31) (fun o => Φ (peer c o)) := by
  rw [← image_peer c]
  exact bigSep_image_of_injOn (fun o h o' h' e => peer_inj c (Finset.mem_range.mp h) (Finset.mem_range.mp h') e) Φ
/-- A family over the devices other than `c`, by how far before `c` they stand. -/
theorem others_sender (c : Dev nD) (Φ : Dev nD → sProp 𝕄) :
    bigSep (Finset.univ.erase c) Φ = bigSep (Finset.range 31) (fun o => Φ (sender c o)) := by
  rw [← image_sender c]
  exact bigSep_image_of_injOn (fun o h o' h' e => sender_inj c (Finset.mem_range.mp h) (Finset.mem_range.mp h') e) Φ

/-! ## Buffers and cells -/

/-- The staged tokens. -/
abbrev xM : Memref sig .tc .vmem S256x128 .f32 := Memref.whole cc0_stg0_0
/-- The staged expert indices. -/
abbrev eM : Memref sig .tc .vmem S256x1 .i32 := Memref.whole cc0_stg1_0
/-- The staged matrices of the device's two experts. -/
abbrev wM : Memref sig .tc .vmem S2x128x256 .f32 := Memref.whole cc0_stg2_0
/-- The staged result. -/
abbrev oM : Memref sig .tc .vmem S256x256 .f32 := Memref.whole cc0_stg3_0
/-- The landing buffer. -/
abbrev rM : Memref sig .tc .vmem S256x256 .f32 := Memref.whole cc0_scratch0

/-- The runtime's barrier semaphore, and the send and receive semaphores of offset `o`. -/
abbrev barS : Sem sig := (SemArray.scalar (sig.barrier 0 rfl) : Sems sig S_).sem
/-- Send semaphore `o`. -/
def sendS (o : ℕ) : DmaSem sig := ⟨(4 + o) % 66, Nat.mod_lt _ (by decide)⟩
/-- Receive semaphore `o`. -/
def recvS (o : ℕ) : DmaSem sig := ⟨(35 + o) % 66, Nat.mod_lt _ (by decide)⟩

/-- A device's barrier. -/
abbrev barCell (c : Dev nD) : GSem nD τ sig := ((c : Thread nD τ), .reg barS)
/-- A device's send semaphore `o`. -/
abbrev sendCell (c : Dev nD) (o : ℕ) : GSem nD τ sig := ((c : Thread nD τ), .dma (sendS o))
/-- A device's receive semaphore `o`. -/
abbrev recvCell (c : Dev nD) (o : ℕ) : GSem nD τ sig := ((c : Thread nD τ), .dma (recvS o))

/-- The landing buffer's eight rows that begin at `off`. -/
abbrev blkM (off : Fin 2 → ℕ) (inb : ∀ a, off a + S8x256.size a ≤ S256x256.size a) : Memref sig .tc .vmem S8x256 .f32 :=
  rM.slice (Rect.unit (s := S256x256) off S8x256.size inb) (fun _ => rfl)

/-- What one transfer of eight rows counts on a semaphore. -/
def N : ℕ := (blkM ![0, 0] (by decide)).view.dmaCredit
/-- A block has a positive credit. -/
theorem N_pos : 0 < N := View.dmaCredit_pos _ (by decide)
/-- Every block has the same credit. -/
theorem N_eq (off : Fin 2 → ℕ) (inb : ∀ a, off a + S8x256.size a ≤ S256x256.size a) : (blkM off inb).view.dmaCredit = N := rfl

/-! ## The row blocks of the landing buffer -/

/-- The entries of rows `8 b` to `8 b + 7`. -/
def rows (b : ℕ) : Finset S256x256.Idx := Finset.univ.filter fun i => (i 0).val / 8 = b

/-- An index is in block `b` if its row is. -/
theorem mem_rows {b : ℕ} {i : S256x256.Idx} : i ∈ rows b ↔ (i 0).val / 8 = b := by
  unfold rows; rw [Finset.mem_filter]; exact ⟨And.right, fun h => ⟨Finset.mem_univ _, h⟩⟩

/-- Where an entry of block `b` lies in the landing buffer. -/
theorem emb_rows {b : ℕ} {off : Fin 2 → ℕ} (h : off = ![8 * b, 0]) (inb : ∀ a, off a + S8x256.size a ≤ S256x256.size a)
    (j : S8x256.Idx) (a : Fin 2) : ((((blkM off inb).view.emb j : S256x256.Idx) a : Fin _) : ℕ) = (![8 * b, 0] : Fin 2 → ℕ) a + (j a).val := by
  subst h
  exact ValueKit.view_emb_slice_whole_unit_val cc0_scratch0 _ S8x256.size inb j a

/-- A block's entries are its rows. -/
theorem set_rows {b : ℕ} {off : Fin 2 → ℕ} (h : off = ![8 * b, 0]) (inb : ∀ a, off a + S8x256.size a ≤ S256x256.size a) :
    (blkM off inb).view.set = rows b := by
  ext i
  rw [mem_rows]
  constructor
  · intro hi
    obtain ⟨j, -, rfl⟩ := Finset.mem_map.mp hi
    have e := emb_rows h inb j 0
    have hj : (j 0).val < 8 := (j 0).isLt
    change ((((blkM off inb).view.emb j : S256x256.Idx) 0 : Fin _) : ℕ) = 8 * b + (j 0).val at e
    change ((((blkM off inb).view.emb j : S256x256.Idx) 0 : Fin _) : ℕ) / 8 = b
    omega
  · intro hi
    have h0 : (i 0).val % 8 < 8 := Nat.mod_lt _ (by decide)
    refine Finset.mem_map.mpr ⟨ix2 (n0 := 8) (n1 := 256) ⟨(i 0).val % 8, h0⟩ (i 1), Finset.mem_univ _, ?_⟩
    refine funext fun a => Fin.ext ?_
    refine (emb_rows h inb _ a).trans ?_
    match a with
    | ⟨0, _⟩ =>
      show 8 * b + (i 0).val % 8 = (i 0).val
      omega
    | ⟨1, _⟩ => exact Nat.zero_add _

/-- Different blocks have no row in common. -/
theorem rows_disjoint {b b' : ℕ} (h : b ≠ b') : Disjoint (rows b) (rows b') := by
  rw [Finset.disjoint_left]
  intro i hi hi'
  exact h ((mem_rows.mp hi).symm.trans (mem_rows.mp hi'))

/-- The 32 blocks cover the landing buffer. -/
theorem rows_cover : (Finset.univ : Finset (Dev nD)).biUnion (fun d => rows d.val) = Finset.univ := by
  ext i
  refine ⟨fun _ => Finset.mem_univ _, fun _ => ?_⟩
  have h0 : (i 0).val < 256 := (i 0).isLt
  exact Finset.mem_biUnion.mpr ⟨⟨(i 0).val / 8, by show _ < 32; omega⟩, Finset.mem_univ _, mem_rows.mpr rfl⟩

/-! ## Contents -/

/-- Device `c`'s staged tokens, expert indices and weights: its arguments as launched. -/
def xstg (c : Dev nD) : (cc0_stg0_0 : Ref sig .tc).ty.Contents (Elt F) :=
  (win0_0.blk (0 : Fin 1)).view.read (Elt F) (m ((c : Thread nD τ).loc main_arg0))
/-- What the staged expert indices hold. -/
def estg (c : Dev nD) : (cc0_stg1_0 : Ref sig .tc).ty.Contents (Elt F) :=
  (win0_1.blk (0 : Fin 1)).view.read (Elt F) (m ((c : Thread nD τ).loc main_arg2))
/-- What the staged matrices hold. -/
def wstg (c : Dev nD) : (cc0_stg2_0 : Ref sig .tc).ty.Contents (Elt F) :=
  (win0_2.blk (0 : Fin 1)).view.read (Elt F) (m ((c : Thread nD τ).loc main_arg3))

/-- The kernel's number of device `c`. -/
abbrev devWord (c : Dev nD) : BitVec 32 := Scalar.remsi (Scalar.divsi (Dev.word c) 1#32) 32#32

/-- The first expert's matrix among the two. -/
abbrev w0R : Rect S2x128x256 := Rect.unit (s := S2x128x256) ![0, 0, 0] S1x128x256.size inb_S2x128x256_S1x128x256_0_0_0
/-- The second expert's matrix among the two. -/
abbrev w1R : Rect S2x128x256 := Rect.unit (s := S2x128x256) ![1, 0, 0] S1x128x256.size inb_S2x128x256_S1x128x256_1_0_0

/-- The eight rows device `c` computes: up to three tokens for each of its two experts, times that expert's weights. -/
def chunk (c : Dev nD) : FVec F S8x256 .f32 :=
  k0_pay8 (k0_pay7 (k0_pay5 (devWord c) (estg m c)) (k0_pay6 (devWord c) (estg m c))
    (iota .tc S1x8 32 [1] iota_S1x8_d1_w32) 4#32 (Scalar.cmpi .eq 4#32 0#32) (xstg m c)
    (wM.view.readAt (Elt F) w0R.toLoadRect (wstg m c)) (wM.view.readAt (Elt F) w1R.toLoadRect (wstg m c)))

/-- The gathered array: rows `8 d` to `8 d + 7` are device `d`'s. -/
def gath : (cc0_scratch0 : Ref sig .tc).ty.Contents (Elt F) := fun (i : S256x256.Idx) =>
  chunk m ⟨(i 0).val / 8 % 32, Nat.mod_lt _ (by decide)⟩
    (ix2 (n0 := 8) (n1 := 256) ⟨(i 0).val % 8, Nat.mod_lt _ (by decide)⟩ (i 1))

/-- Block `c` of the gathered array is what device `c` computed, entry by entry. -/
theorem gath_emb (c : Dev nD) {off : Fin 2 → ℕ} (h : off = ![8 * c.val, 0]) (inb : ∀ a, off a + S8x256.size a ≤ S256x256.size a)
    (j : S8x256.Idx) : gath m ((blkM off inb).view.emb j) = chunk m c j := by
  have e0 := emb_rows h inb j 0
  have e1 := emb_rows h inb j 1
  have hj : (j 0).val < 8 := (j 0).isLt
  have hc := dev_lt c
  change ((((blkM off inb).view.emb j : S256x256.Idx) 0 : Fin _) : ℕ) = 8 * c.val + (j 0).val at e0
  change ((((blkM off inb).view.emb j : S256x256.Idx) 1 : Fin _) : ℕ) = 0 + (j 1).val at e1
  rw [Nat.zero_add] at e1
  unfold gath
  congr 1
  · refine Fin.ext ?_
    show ((((blkM off inb).view.emb j : S256x256.Idx) 0 : Fin _) : ℕ) / 8 % 32 = c.val
    omega
  · refine funext fun a => Fin.ext ?_
    match a with
    | ⟨0, _⟩ =>
      show ((((blkM off inb).view.emb j : S256x256.Idx) 0 : Fin _) : ℕ) % 8 = (j 0).val
      omega
    | ⟨1, _⟩ => exact e1

/-- Rows `8 b` to `8 b + 7` of device `c`'s landing buffer, at share `q`. -/
def blkAt (q : PosShare TreeShare) (c : Dev nD) (b : ℕ) (f : (cc0_scratch0 : Ref sig .tc).ty.Contents (Elt F)) : sProp 𝕄 :=
  ((c : Thread nD τ).loc cc0_scratch0) ↦[rows b]{q} f
/-- Block `d` of the landing buffer of device `c`, in full. -/
abbrev blkPts (c d : Dev nD) (f : (cc0_scratch0 : Ref sig .tc).ty.Contents (Elt F)) : sProp 𝕄 := blkAt fullShare c d.val f

omit [FloatOps F] in
instance blkAt_storable (q : PosShare TreeShare) (c : Dev nD) (b : ℕ) (f) : BI.Storable (upEmb : UEmb _ 𝕄) (blkAt (F := F) q c b f) := by
  unfold blkAt; infer_instance

/-- The share of a device's own rows that the send of offset `o` takes. -/
abbrev shr (o : ℕ) : PosShare TreeShare := ShareLeaves.leaf 5 fullShare ⟨(o + 1) % 32, Nat.mod_lt _ (by decide)⟩
/-- The share that no send takes. -/
abbrev shr₀ : PosShare TreeShare := ShareLeaves.leaf 5 fullShare ⟨0, by decide⟩

end Cert.Moe

end
-- ==== Proof.Sched.lean ====
/-
# The schedule of the ring's semaphores, their levels, and what each device owes

A barrier cell has one duty of one unit for every other device, which hands over the payer's row block numbered by the
cell's owner. A receive cell has one duty, the eight rows of the device that sends there, landed. A send cell has one
duty, the share of the sender's own rows back.
-/
module

public import proofs.«01_k».proof.Proof.Ring

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule -/

/-- The name of the one duty of a transfer's cell. -/
def d₀ : Dev nD := ⟨0, by decide⟩

/-- The duties of a cell in its one round. -/
def dutiesOf (c : Dev nD) : SemLoc sig → Finset (Dev nD)
  | .reg _ => Finset.univ.erase c
  | .dma q => if 4 ≤ q.val then {d₀} else ∅

/-- What a duty adds to its cell. -/
def amountOf : SemLoc sig → ℕ
  | .reg _ => 1
  | .dma _ => N

/-- What a duty of `c`'s cell hands over, paid by `d`. -/
def payOf (c d : Dev nD) : SemLoc sig → sProp 𝕄
  | .reg _ => iprop(∃ f, blkPts d c f)
  | .dma q => if 35 ≤ q.val then blkPts c (sender c (q.val - 35)) (gath m)
      else if 4 ≤ q.val then blkAt (shr (q.val - 4)) c c.val (gath m) else iprop(emp)

/-- The schedule: one round. -/
def ringRd : Rounds.Schedule (GSem nD τ sig) (Dev nD) 𝕄 where
  duties g r := if r = 0 ∧ g.1.2 = .tc then dutiesOf g.1.1 g.2 else ∅
  unitless _ := False
  amount g _ _ := amountOf g.2
  payload g _ d := payOf m g.1.1 d g.2
  amount_pos g _ _ _ := by
    cases h : g.2 with
    | reg _ => exact Nat.one_pos
    | dma _ => exact N_pos

instance ringRd_payload_storable (g : GSem nD τ sig) (r : ℕ) (d : Dev nD) :
    BI.Storable (upEmb : UEmb _ 𝕄) ((ringRd (F := F) m).payload g r d) := by
  show BI.Storable upEmb (payOf m g.1.1 d g.2)
  cases g.2 with
  | reg _ => unfold payOf; infer_instance
  | dma q => unfold payOf; (repeat' split) <;> infer_instance

/-- The number of send semaphore `o`. -/
theorem sendS_val {o : ℕ} (h : o < 31) : (sendS o).val = 4 + o := by show (4 + o) % 66 = _; omega
/-- The number of receive semaphore `o`. -/
theorem recvS_val {o : ℕ} (h : o < 31) : (recvS o).val = 35 + o := by show (35 + o) % 66 = _; omega

section Facts
variable (c : Dev nD)

/-- A barrier is signalled by every other device. -/
theorem duties_bar : (ringRd (F := F) m).duties (barCell c) 0 = Finset.univ.erase c := by
  dsimp only [ringRd]; exact if_pos ⟨rfl, rfl⟩
/-- A send semaphore has one duty. -/
theorem duties_send {o : ℕ} (h : o < 31) : (ringRd (F := F) m).duties (sendCell c o) 0 = {d₀} := by
  dsimp only [ringRd]; rw [if_pos ⟨rfl, rfl⟩]; unfold dutiesOf; exact if_pos (by rw [sendS_val h]; omega)
/-- A receive semaphore has one duty. -/
theorem duties_recv {o : ℕ} (h : o < 31) : (ringRd (F := F) m).duties (recvCell c o) 0 = {d₀} := by
  dsimp only [ringRd]; rw [if_pos ⟨rfl, rfl⟩]; unfold dutiesOf; exact if_pos (by rw [recvS_val h]; omega)
/-- There is one round. -/
theorem duties_later (g : GSem nD τ sig) : ∀ r, 1 ≤ r → (ringRd (F := F) m).duties g r = ∅ :=
  fun r hr => by dsimp only [ringRd]; exact if_neg fun h => by omega

/-- A signal is one unit. -/
theorem amount_bar (d : Dev nD) : (ringRd (F := F) m).amount (barCell c) 0 d = 1 := rfl
/-- A copy's semaphore gets one block's credit. -/
theorem amount_dma (q : DmaSem sig) (d : Dev nD) : (ringRd (F := F) m).amount ((c : Thread nD τ), .dma q) 0 d = N := rfl

/-- A barrier expects 31 units. -/
theorem expect_bar : (ringRd (F := F) m).expect (barCell c) 0 = 31 := by
  unfold Schedule.expect Schedule.amountOf
  rw [duties_bar, Finset.sum_congr rfl fun d _ => amount_bar m c d, Finset.sum_const,
    Finset.card_erase_of_mem (Finset.mem_univ _), Finset.card_univ, Fintype.card_fin]
  rfl
/-- A send semaphore expects one block's credit. -/
theorem expect_send {o : ℕ} (h : o < 31) : (ringRd (F := F) m).expect (sendCell c o) 0 = N := by
  unfold Schedule.expect Schedule.amountOf; rw [duties_send m c h, Finset.sum_singleton]; rfl
/-- A receive semaphore expects one block's credit. -/
theorem expect_recv {o : ℕ} (h : o < 31) : (ringRd (F := F) m).expect (recvCell c o) 0 = N := by
  unfold Schedule.expect Schedule.amountOf; rw [duties_recv m c h, Finset.sum_singleton]; rfl

/-- A signal from device `d` hands over device `c`'s block of the landing buffer of `d`. -/
theorem payload_bar (d : Dev nD) : (ringRd (F := F) m).payload (barCell c) 0 d = iprop(∃ f, blkPts d c f) := rfl
/-- A copy that has been read hands back its share of the own block. -/
theorem payload_send {o : ℕ} (h : o < 31) (d : Dev nD) :
    (ringRd (F := F) m).payload (sendCell c o) 0 d = blkAt (shr o) c c.val (gath m) := by
  show payOf m c d (.dma (sendS o)) = _
  dsimp only [payOf]
  rw [if_neg (by rw [sendS_val h]; omega), if_pos (by rw [sendS_val h]; omega), sendS_val h, Nat.add_sub_cancel_left]
/-- A copy that has landed hands over the sender's block with its contents. -/
theorem payload_recv {o : ℕ} (h : o < 31) (d : Dev nD) :
    (ringRd (F := F) m).payload (recvCell c o) 0 d = blkPts c (sender c o) (gath m) := by
  show payOf m c d (.dma (recvS o)) = _
  dsimp only [payOf]
  rw [if_pos (by rw [recvS_val h]; omega), recvS_val h, Nat.add_sub_cancel_left]

/-- All a device gets at its barrier: every other device's row block that it is to fill. -/
theorem rest_bar : bigSep ((ringRd (F := F) m).duties (barCell c) 0 \ ∅) (fun d => (ringRd (F := F) m).payload (barCell c) 0 d)
    = bigSep (Finset.range 31) (fun o => (iprop(∃ f, blkPts (peer c o) c f) : sProp 𝕄)) := by
  rw [Finset.sdiff_empty, duties_bar, others_peer]; rfl
/-- What a wait on a send semaphore gives. -/
theorem rest_send {o : ℕ} (h : o < 31) : bigSep ((ringRd (F := F) m).duties (sendCell c o) 0 \ ∅) (fun d => (ringRd (F := F) m).payload (sendCell c o) 0 d)
    = blkAt (shr o) c c.val (gath m) := by
  rw [Finset.sdiff_empty, duties_send m c h, bigSep_singleton, payload_send m c h]
/-- What a wait on a receive semaphore gives. -/
theorem rest_recv {o : ℕ} (h : o < 31) : bigSep ((ringRd (F := F) m).duties (recvCell c o) 0 \ ∅) (fun d => (ringRd (F := F) m).payload (recvCell c o) 0 d)
    = blkPts c (sender c o) (gath m) := by
  rw [Finset.sdiff_empty, duties_recv m c h, bigSep_singleton, payload_recv m c h]

end Facts

/-! ## What a device owes, and the levels -/

/-- The receive credits device `c` still owes when the sends below `n` are done. -/
def owedRecv (c : Dev nD) (n : ℕ) : CellTallies nD τ sig Unit := ∑ o ∈ Finset.Ico n 31, tallyAt (recvCell (peer c o) o) () N
/-- What device `c` still owes when the signals below `n` are done. -/
def owedBar (c : Dev nD) (n : ℕ) : CellTallies nD τ sig Unit := owedRecv c 0 + ∑ o ∈ Finset.Ico n 31, tallyAt (barCell (peer c o)) () 1
/-- What device `c` owes at launch. -/
def O₀ (c : Dev nD) : CellTallies nD τ sig Unit := owedBar c 0

/-- The offsets from `n` on are `n` and those from `n + 1` on. -/
theorem Ico_first {n : ℕ} (h : n < 31) : Finset.Ico n 31 = insert n (Finset.Ico (n + 1) 31) := by
  ext o; rw [Finset.mem_insert, Finset.mem_Ico, Finset.mem_Ico]; omega
/-- Offset `n` is not among those from `n + 1` on. -/
theorem not_mem_rest (n : ℕ) : n ∉ Finset.Ico (n + 1) 31 := fun h => by have := (Finset.mem_Ico.mp h).1; omega

/-- The copies owed before copy `n` are those owed after it and its own. -/
theorem owedRecv_step (c : Dev nD) {n : ℕ} (h : n < 31) : owedRecv c n = owedRecv c (n + 1) + tallyAt (recvCell (peer c n) n) () N := by
  unfold owedRecv; rw [Ico_first h, Finset.sum_insert (not_mem_rest n), add_comm]
/-- After the last copy nothing is owed. -/
theorem owedRecv_last (c : Dev nD) : owedRecv c 31 = 0 := by unfold owedRecv; rw [Finset.Ico_self, Finset.sum_empty]
/-- The debts before signal `n` are those after it and its own unit. -/
theorem owedBar_step (c : Dev nD) {n : ℕ} (h : n < 31) : owedBar c n = owedBar c (n + 1) + tallyAt (barCell (peer c n)) () 1 := by
  unfold owedBar; rw [Ico_first h, Finset.sum_insert (not_mem_rest n), add_comm (tallyAt _ _ _), ← add_assoc]
/-- After the last signal only the copies are owed. -/
theorem owedBar_last (c : Dev nD) : owedBar c 31 = owedRecv c 0 := by
  unfold owedBar; rw [Finset.Ico_self, Finset.sum_empty, add_zero]

/-- A sum of tallies at one cell is the sum of the tallies there. -/
theorem sum_tally (s : Finset ℕ) (f : ℕ → CellTallies nD τ sig Unit) (g : GSem nD τ sig) (u : Unit) :
    (∑ o ∈ s, f o) g u = ∑ o ∈ s, f o g u := by
  induction s using Finset.induction_on with
  | empty => rw [Finset.sum_empty, Finset.sum_empty]; rfl
  | insert a s ha ih => rw [Finset.sum_insert ha, Finset.sum_insert ha, Pi.add_apply, Finsupp.add_apply, ih]

/-- Copies are owed to receive cells only. -/
theorem owedRecv_pos {c : Dev nD} {n : ℕ} {g : GSem nD τ sig} {u : Unit} (h : 0 < owedRecv c n g u) :
    ∃ o, o < 31 ∧ g = recvCell (peer c o) o := by
  unfold owedRecv at h
  rw [sum_tally] at h
  obtain ⟨o, ho, hp⟩ := Finset.sum_pos_iff.mp h
  refine ⟨o, (Finset.mem_Ico.mp ho).2, ?_⟩
  rw [tallyAt_apply] at hp
  by_contra hn
  rw [if_neg fun h' => hn h'.1] at hp
  exact Nat.lt_irrefl 0 hp

/-- Debts are owed to receive cells and barriers only. -/
theorem O₀_pos {c : Dev nD} {g : GSem nD τ sig} {u : Unit} (h : 0 < O₀ c g u) :
    (∃ o, o < 31 ∧ g = recvCell (peer c o) o) ∨ ∃ d, g = barCell d := by
  unfold O₀ owedBar at h
  rw [Pi.add_apply, Finsupp.add_apply, sum_tally] at h
  rcases Nat.eq_zero_or_pos (owedRecv c 0 g u) with h0 | h0
  · rw [h0, Nat.zero_add] at h
    obtain ⟨o, ho, hp⟩ := Finset.sum_pos_iff.mp h
    refine Or.inr ⟨peer c o, ?_⟩
    rw [tallyAt_apply] at hp
    by_contra hn
    rw [if_neg fun h' => hn h'.1] at hp
    exact Nat.lt_irrefl 0 hp
  · exact Or.inl (owedRecv_pos h0)

/-- The levels are given to the cells of the tensor cores. -/
def L (g : GSem nD τ sig) : Finset Unit := if g.1.2 = .tc then {()} else ∅
/-- Staging and send cells at 0, barrier cells at 1, receive cells at 2. -/
def lv (g : GSem nD τ sig) (_ : Unit) : ℕ := match g.2 with
  | .reg _ => 1
  | .dma q => if 35 ≤ q.val then 2 else 0

/-- No other core has a cell with a level. -/
theorem L_of_ne (g : GSem nD τ sig) (h : g.1.2 ≠ .tc) : L g = ∅ := if_neg h
/-- Every cell of a tensor core has a level. -/
theorem L_tc (c : Dev nD) (sm : SemLoc sig) : L ((c : Thread nD τ), sm) = {()} := if_pos rfl
/-- A receive cell has level 2. -/
theorem lv_recv (c : Dev nD) {o : ℕ} (h : o < 31) : lv (recvCell c o) () = 2 := by
  show (if 35 ≤ (recvS o).val then 2 else 0) = 2; rw [if_pos (by rw [recvS_val h]; omega)]

omit [FloatOps F] in
/-- The pipeline's own waits are below everything the device owes. -/
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨o, -, rfl⟩ | ⟨d, rfl⟩ <;> exact Finset.mem_singleton_self _)
      (fun p hp => by
        rw [Finset.mem_singleton.mp hp]
        show (if 35 ≤ q.val then 2 else 0) ≤ 0
        rw [if_neg (by omega)])
      (fun g u hg => by
        rcases O₀_pos hg with ⟨o, ho, rfl⟩ | ⟨d, rfl⟩
        · show 0 < lv (recvCell (peer c o) o) (); rw [lv_recv _ ho]; decide
        · exact Nat.one_pos)
  · rw [MayWait_zero]; iintro -; iempintro

omit [FloatOps F] in
/-- At its barrier wait a device owes receive credits only, which are above its barrier cell. -/
theorem mayWait_bar (c : Dev nD) :
    (levAts L lv : sProp 𝕄) ⊢ MayWait (c : Thread nD τ) (.reg barS) () (owedRecv c 0) :=
  MayOwe.of_cut (L := L) (lev := lv) 1 (fun p hp => by rw [Finset.mem_singleton.mp hp, L_tc]; exact Finset.mem_singleton_self _)
    (fun g u hg => by obtain ⟨o, ho, rfl⟩ := owedRecv_pos hg; exact Finset.mem_singleton_self _)
    (fun p hp => by rw [Finset.mem_singleton.mp hp]; exact Nat.le_refl 1)
    (fun g u hg => by
      obtain ⟨o, ho, rfl⟩ := owedRecv_pos hg
      show 1 < lv (recvCell (peer c o) o) ()
      rw [lv_recv _ ho]; decide)

end Cert.Moe

end
-- ==== Proof.Steps.lean ====
/-
# One step of each kind

The body is four runs of thirty-one like operations. Each run has a state indexed by how many of its operations are done
— `SigSt` the signals, `SndSt` the sends, `RcvSt` the waits for what lands, `WtSt` the waits for the own sends — and one
lemma that takes the state `n` to the state `n + 1` through one operation.
-/
module

public import proofs.«01_k».proof.Proof.Sched
public import Idealize.SL.BI.BigOpNat

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop needs a variant. -/
abbrev 𝒱₀ : Variants := Variants.none

/-! ## The cells in one list -/

/-- The semaphores of the exchange on one device: the barrier, then the sends', then the receives'. -/
def csem (k : Fin 63) : SemLoc sig := if k.val = 0 then .reg barS else .dma ⟨(3 + k.val) % 66, Nat.mod_lt _ (by decide)⟩
/-- The cell number `k` of a device. -/
def kcell (ck : Dev nD × Fin 63) : GSem nD τ sig := ((ck.1 : Thread nD τ), csem ck.2)

/-- The place of send semaphore `o` in the list of cells. -/
def kSend (o : ℕ) : Fin 63 := ⟨(1 + o) % 63, Nat.mod_lt _ (by decide)⟩
/-- The place of receive semaphore `o` in the list of cells. -/
def kRecv (o : ℕ) : Fin 63 := ⟨(32 + o) % 63, Nat.mod_lt _ (by decide)⟩

/-- Cell 0 is the barrier. -/
theorem kcell_bar (c : Dev nD) : kcell (c, 0) = barCell c := rfl
/-- The cell of send semaphore `o`. -/
theorem kcell_send (c : Dev nD) {o : ℕ} (h : o < 31) : kcell (c, kSend o) = sendCell c o := by
  have hv : (kSend o).val = 1 + o := by show (1 + o) % 63 = _; omega
  unfold kcell csem
  dsimp only
  rw [if_neg (by omega)]
  refine congrArg (fun q => (((c : Thread nD τ), SemLoc.dma q) : GSem nD τ sig)) (Fin.ext ?_)
  show (3 + (kSend o).val) % 66 = (4 + o) % 66
  omega
/-- The cell of receive semaphore `o`. -/
theorem kcell_recv (c : Dev nD) {o : ℕ} (h : o < 31) : kcell (c, kRecv o) = recvCell c o := by
  have hv : (kRecv o).val = 32 + o := by show (32 + o) % 63 = _; omega
  unfold kcell csem
  dsimp only
  rw [if_neg (by omega)]
  refine congrArg (fun q => (((c : Thread nD τ), SemLoc.dma q) : GSem nD τ sig)) (Fin.ext ?_)
  show (3 + (kRecv o).val) % 66 = (35 + o) % 66
  omega

variable (K : Dev nD × Fin 63 → ℕ)

/-- Every cell's invariant and that every cell has reached its round. -/
def records : sProp 𝕄 :=
  iprop((bigSep Finset.univ fun ck : Dev nD × Fin 63 => cellInv ER (ringRd m) (K ck) (kcell ck))
    ∗ bigSep Finset.univ fun ck : Dev nD × Fin 63 => reached ER (kcell ck) 0)

instance records_persistent : BI.Persistent (records m K) := by unfold records; infer_instance

/-- A cell's invariant, from the records. -/
theorem rec_inv (ck : Dev nD × Fin 63) {g : GSem nD τ sig} (h : kcell ck = g) : records m K ⊢ cellInv ER (ringRd m) (K ck) g := by
  subst h
  unfold records
  rw [bigSep_univ_at (fun ck => cellInv ER (ringRd m) (K ck) (kcell ck)) ck]
  iintro ⟨⟨#H, -⟩, -⟩; iexact H
/-- Every cell has reached round 0. -/
theorem rec_reached (ck : Dev nD × Fin 63) {g : GSem nD τ sig} (h : kcell ck = g) : records m K ⊢ reached ER g 0 := by
  subst h
  unfold records
  rw [bigSep_univ_at (fun ck => reached ER (kcell ck) 0) ck]
  iintro ⟨-, ⟨#H, -⟩⟩; iexact H

omit [FloatOps F] in
/-- The first of what remains. -/
theorem rest_split {n : ℕ} (h : n < 31) (Φ : ℕ → sProp 𝕄) :
    bigSep (Finset.Ico n 31) Φ = iprop(Φ n ∗ bigSep (Finset.Ico (n + 1) 31) Φ) := by
  rw [Ico_first h]; exact bigSep_insert (not_mem_rest n)

variable (c : Dev nD)

omit [FloatOps F] in
/-- A device number the kernel computes names the peer it is equal to. -/
theorem dev_eq {n v : ℕ} {hv : v < nD} (h : v = (c.val + (n + 1)) % 32) : (⟨v, hv⟩ : Dev nD) = peer c n := Fin.ext h

/-! ## The signals -/

/-- When `n` signals are done: the units still owed, and for every signal to come its duty and the row block it hands over. -/
def SigSt (n : ℕ) : sProp 𝕄 :=
  iprop(records m K ∗ (∃ W, owes (c : Thread nD τ) (owedBar c n) W)
    ∗ bigSep (Finset.Ico n 31) fun o => iprop(dutyTok ER (barCell (peer c o)) 0 c ∗ ∃ f, blkPts c (peer c o) f))

/-- One signal: it hands the device `n + 1` places further the block of `c`'s landing buffer that that device fills. -/
theorem wp_sig {n : ℕ} (hn : n < 31) {x : Dev nD} (hx : x = peer c n)
    {α : Type} {Q : α → sProp 𝕄} {k : PUnit → Prog (TpuEff nD τ sig (Elt F) Λ₀ .tc) α} :
    SigSt m K c n ⊢ iprop((SigSt m K c (n + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.semSignal (x : Thread nD τ) barS (1#32 : BitVec 32).toInt) k) Q) := by
  subst hx
  unfold SigSt
  rw [rest_split hn]
  iintro ⟨#HR, ⟨%W, HO⟩, ⟨Ht, Hb⟩, Hrest⟩ Hk
  iapply (Rounds.wp_signal 𝒱₀ ER (ringRd m) (c : Thread nD τ) none (dst := (peer c n : Thread nD τ)) (κ := K (peer c n, 0))
      (d := c) (by rw [duties_bar]; exact Finset.mem_erase.mpr ⟨(peer_ne c hn).symm, Finset.mem_univ _⟩)
      ((amount_bar m (peer c n) c).trans (by decide)) () (owedBar c (n + 1)) (owedBar_step c hn)) $$ [HO Ht Hb]
  · isplitr; · iapply (rec_inv m K (peer c n, 0) (kcell_bar _)); iexact HR
    isplitl [HO]; · iexact HO
    isplitl [Ht]; · iexact Ht
    isplitl [Hb]; · rw [payload_bar]; iexact Hb
    iapply (rec_reached m K (peer c n, 0) (kcell_bar _)); iexact HR
  iintro HO
  iapply Hk
  isplitr; · iexact HR
  isplitl [HO]; · iexists W; iexact HO
  iexact Hrest

/-! ## The sends -/

/-- When `n` sends are done: the credits still owed, and for every send to come its two duties, its share of `c`'s rows
    and the block it writes; the credits of the sends done. -/
def SndSt (n : ℕ) : sProp 𝕄 :=
  iprop(records m K ∗ (∃ W, owes (c : Thread nD τ) (owedRecv c n) W)
    ∗ (bigSep (Finset.Ico n 31) fun o => iprop(dutyTok ER (sendCell c o) 0 d₀ ∗ dutyTok ER (recvCell (peer c o) o) 0 d₀
        ∗ blkAt (shr o) c c.val (gath m) ∗ ∃ f, blkPts (peer c o) c f))
    ∗ bigSep (Finset.range n) fun o => cred (tallyAt (sendCell c o) () N))

omit [FloatOps F] in
/-- A block of one array written over the same block of another: inside the block the result is the first. -/
theorem write_gath {b : ℕ} {off off' : Fin 2 → ℕ} (h : off = ![8 * b, 0]) (h' : off' = ![8 * b, 0])
    (inb : ∀ a, off a + S8x256.size a ≤ S256x256.size a) (inb' : ∀ a, off' a + S8x256.size a ≤ S256x256.size a)
    (f g : (cc0_scratch0 : Ref sig .tc).ty.Contents (Elt F)) :
    ∀ i ∈ rows b, (blkM off inb).view.write (Elt F) f ((blkM off' inb').view.read (Elt F) g) Finset.univ i = g i := by
  obtain rfl : off = off' := h.trans h'.symm
  intro i hi
  rw [View.write_read_eq_piecewise]
  exact Finset.piecewise_eq_of_mem _ _ _ (by rw [View.setOn_univ, set_rows h]; exact hi)

set_option maxHeartbeats 2000000 in
/-- One send: `c`'s eight rows go to the device `n + 1` places further, whose block `c` then holds them. -/
theorem wp_snd {n : ℕ} (hn : n < 31) {x : Dev nD} (hx : x = peer c n)
    {off : Fin 2 → ℕ} (hoff : off = ![8 * c.val, 0]) {inb inb' : ∀ a, off a + S8x256.size a ≤ S256x256.size a}
    {hsc : (blkM off inb' : Memref sig (Dev.tc x : Thread nD τ).2.kind .vmem S8x256 .f32).view.ref.isScScratch = false}
    {hsrc : (blkM off inb).view.WordExact} {hdst : (blkM off inb').view.WordExact}
    {hsem : DmaTarget.Typed .vmem (.dma (recvS n)) (.remote (Dev.tc x : Thread nD τ) (blkM off inb' : Memref sig .tc .vmem S8x256 .f32) (.dma (sendS n)) hsc)}
    {α : Type} {Q : α → sProp 𝕄} {k : PUnit → Prog (TpuEff nD τ sig (Elt F) Λ₀ .tc) α} :
    SndSt m K c n ⊢ iprop((SndSt m K c (n + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (blkM off inb) (.remote (Dev.tc x : Thread nD τ) (blkM off inb') (.dma (sendS n)) hsc)
            (.dma (recvS n)) hsrc hdst hsem) k) Q) := by
  subst hx
  unfold SndSt
  rw [rest_split hn, bigSep_range_succ]
  iintro ⟨#HR, ⟨%W, HO⟩, ⟨⟨Ht1, Ht2, Hs, ⟨%f, Hd⟩⟩, Hrest⟩, Hdone⟩ Hk
  unfold blkPts blkAt
  iapply (Rounds.wp_send_pointsTo 𝒱₀ ER (ringRd m) (c : Thread nD τ) none (c' := (peer c n : Thread nD τ)) (src := blkM off inb)
      (dst := (blkM off inb' : Memref sig (peer c n : Thread nD τ).2.kind .vmem S8x256 .f32)) (sS := .dma (sendS n)) (sem := .dma (recvS n))
      (hsc := hsc) (hsrc := hsrc) (hdst := hdst) (hsem := hsem) (κ₁ := K (c, kSend n)) (κ₂ := K (peer c n, kRecv n))
      (r₁ := 0) (r₂ := 0) (d₁ := d₀) (d₂ := d₀) (fs := gath m) (fd := f) (q := shr n)
      (by rw [duties_send m c hn]; exact Finset.mem_singleton_self _) (by rw [duties_recv m _ hn]; exact Finset.mem_singleton_self _)
      () () N (N_eq off inb') (amount_dma m c _ d₀) (amount_dma m (peer c n) _ d₀) (owedRecv c (n + 1)) (owedRecv_step c hn) (W := W)
      (by rw [payload_send m c hn, set_rows hoff]; exact BI.Entails.refl _)
      (by
        rw [payload_recv m (peer c n) hn, sender_peer c hn, set_rows hoff]
        exact Entails.of_eq (pointsTo_congr (write_gath hoff hoff _ _ f (gath m))))) $$ [HO Ht1 Ht2 Hs Hd]
  · isplitr; · iapply (rec_inv m K (c, kSend n) (kcell_send c hn)); iexact HR
    isplitr; · iapply (rec_inv m K (peer c n, kRecv n) (kcell_recv _ hn)); iexact HR
    isplitl [Hs]; · rw [set_rows hoff]; iexact Hs
    isplitl [Hd]; · rw [set_rows hoff]; iexact Hd
    isplitl [HO]; · iexact HO
    isplitl [Ht1]; · iexact Ht1
    isplitr; · iapply (rec_reached m K (c, kSend n) (kcell_send c hn)); iexact HR
    isplitl [Ht2]; · iexact Ht2
    iapply (rec_reached m K (peer c n, kRecv n) (kcell_recv _ hn)); iexact HR
  iintro ⟨Hc, HO⟩
  iapply Hk
  isplitr; · iexact HR
  isplitl [HO]; · iexists W; iexact HO
  isplitl [Hrest]; · iexact Hrest
  isplitl [Hc]; · iexact Hc
  iexact Hdone

/-! ## The waits -/

/-- When `n` receive waits are done: for every wait to come its credit and position; every block landed so far, and its
    semaphore at zero. -/
def RcvSt (n : ℕ) : sProp 𝕄 :=
  iprop(records m K ∗ (∃ W, owes (c : Thread nD τ) 0 W)
    ∗ (bigSep (Finset.Ico n 31) fun o => iprop(cred (tallyAt (recvCell c o) () N) ∗ atPos ER (recvCell c o) 0 ∅ 0))
    ∗ bigSep (Finset.range n) fun o => iprop(blkPts c (sender c o) (gath m) ∗ semVal (recvCell c o) 0))

/-- The same of the waits for the own sends, each of which gives its share of `c`'s rows back. -/
def WtSt (n : ℕ) : sProp 𝕄 :=
  iprop(records m K ∗ (∃ W, owes (c : Thread nD τ) 0 W)
    ∗ (bigSep (Finset.Ico n 31) fun o => iprop(cred (tallyAt (sendCell c o) () N) ∗ atPos ER (sendCell c o) 0 ∅ 0))
    ∗ bigSep (Finset.range n) fun o => iprop(blkAt (shr o) c c.val (gath m) ∗ semVal (sendCell c o) 0))

/-- A wait that empties a transfer's cell, owing nothing: what the round hands over, and the semaphore at zero. -/
theorem wp_wait_close {q : DmaSem sig} (ck : Fin 63) (hck : kcell (c, ck) = ((c : Thread nD τ), .dma q))
    (hx : (ringRd (F := F) m).expect ((c : Thread nD τ), .dma q) 0 = N) {P : sProp 𝕄}
    (hP : bigSep ((ringRd (F := F) m).duties ((c : Thread nD τ), .dma q) 0 \ ∅) (fun d => (ringRd (F := F) m).payload ((c : Thread nD τ), .dma q) 0 d) = P)
    {off off' : Fin 2 → ℕ} {inb : ∀ a, off a + S8x256.size a ≤ S256x256.size a} {inb' : ∀ a, off' a + S8x256.size a ≤ S256x256.size a}
    {h₁ : (blkM off inb).view.WordExact} {h₂ : (blkM off' inb').view.WordExact}
    {α : Type} {Q : α → sProp 𝕄} {k : PUnit → Prog (TpuEff nD τ sig (Elt F) Λ₀ .tc) α} :
    iprop(records m K ∗ (∃ W, owes (c : Thread nD τ) 0 W) ∗ cred (tallyAt ((c : Thread nD τ), .dma q) () N) ∗ atPos ER ((c : Thread nD τ), .dma q) 0 ∅ 0)
      ⊢ iprop(((∃ W, owes (c : Thread nD τ) 0 W) ∗ P ∗ semVal ((c : Thread nD τ), .dma q) 0
          -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 q (blkM off inb) (blkM off' inb') h₁ h₂) k) Q) := by
  iintro ⟨#HR, ⟨%W, HO⟩, Hc, Hat⟩ Hk
  iapply (Rounds.wp_wait_rest_token 𝒱₀ ER (ringRd m) (c : Thread nD τ) none (κ := K (c, ck))
      (wpE_waitDma2_eq 𝒱₀ (c : Thread nD τ) none Set.univ) (Set.mem_univ _) () (O := 0) (W := W) (R := 0) (m := 0) (T := ∅)
      (by rw [Nat.zero_add, hx]; exact N_eq _ _)) $$ [Hc HO Hat]
  · isplitr; · iapply (rec_inv m K (c, ck) hck); iexact HR
    isplitl [Hc]; · iexact Hc
    isplitl [HO]; · iexact HO
    isplitr; · rw [MayWait_zero]; iempintro
    iexact Hat
  iintro ⟨HO, Hat, -, Hpay⟩
  ihave HP := (Entails.of_eq hP) $$ Hpay
  imod (Rounds.cell_close ER (ringRd m) (Set.mem_univ (K (c, ck))) (fun h => h) (R := 0 + 1) (duties_later m _)) $$ [Hat] with Hz
  · isplitr; · iapply (rec_inv m K (c, ck) hck); iexact HR
    iexact Hat
  iapply Hk
  isplitl [HO]; · iexists _; iexact HO
  isplitl [HP]; · iexact HP
  iexact Hz

/-- One wait for a block to land. -/
theorem wp_rcv {n : ℕ} (hn : n < 31)
    {off off' : Fin 2 → ℕ} {inb : ∀ a, off a + S8x256.size a ≤ S256x256.size a} {inb' : ∀ a, off' a + S8x256.size a ≤ S256x256.size a}
    {h₁ : (blkM off inb).view.WordExact} {h₂ : (blkM off' inb').view.WordExact}
    {α : Type} {Q : α → sProp 𝕄} {k : PUnit → Prog (TpuEff nD τ sig (Elt F) Λ₀ .tc) α} :
    RcvSt m K c n ⊢ iprop((RcvSt m K c (n + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (recvS n) (blkM off inb) (blkM off' inb') h₁ h₂) k) Q) := by
  unfold RcvSt
  rw [rest_split hn, bigSep_range_succ]
  iintro ⟨#HR, HO, ⟨⟨Hc, Hat⟩, Hrest⟩, Hdone⟩ Hk
  iapply (wp_wait_close m K c (kRecv n) (kcell_recv c hn) (expect_recv m c hn) (rest_recv m c hn)) $$ [HO Hc Hat]
  · isplitr; · iexact HR
    isplitl [HO]; · iexact HO
    isplitl [Hc] <;> iassumption
  iintro ⟨HO, HP, Hz⟩
  iapply Hk
  isplitr; · iexact HR
  isplitl [HO]; · iexact HO
  isplitl [Hrest]; · iexact Hrest
  isplitl [HP Hz]
  · isplitl [HP] <;> iassumption
  iexact Hdone

/-- One wait for an own send to be done. -/
theorem wp_wt {n : ℕ} (hn : n < 31)
    {off off' : Fin 2 → ℕ} {inb : ∀ a, off a + S8x256.size a ≤ S256x256.size a} {inb' : ∀ a, off' a + S8x256.size a ≤ S256x256.size a}
    {h₁ : (blkM off inb).view.WordExact} {h₂ : (blkM off' inb').view.WordExact}
    {α : Type} {Q : α → sProp 𝕄} {k : PUnit → Prog (TpuEff nD τ sig (Elt F) Λ₀ .tc) α} :
    WtSt m K c n ⊢ iprop((WtSt m K c (n + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (sendS n) (blkM off inb) (blkM off' inb') h₁ h₂) k) Q) := by
  unfold WtSt
  rw [rest_split hn, bigSep_range_succ]
  iintro ⟨#HR, HO, ⟨⟨Hc, Hat⟩, Hrest⟩, Hdone⟩ Hk
  iapply (wp_wait_close m K c (kSend n) (kcell_send c hn) (expect_send m c hn) (rest_send m c hn)) $$ [HO Hc Hat]
  · isplitr; · iexact HR
    isplitl [HO]; · iexact HO
    isplitl [Hc] <;> iassumption
  iintro ⟨HO, HP, Hz⟩
  iapply Hk
  isplitr; · iexact HR
  isplitl [HO]; · iexact HO
  isplitl [Hrest]; · iexact Hrest
  isplitl [HP Hz]
  · isplitl [HP] <;> iassumption
  iexact Hdone

/-! ## The kernel's semaphores, one entry of each array -/

/-- Entry `i` of an array of 31 semaphores that begins at `base` is number `base + i`. -/
theorem sem_at (base i : ℕ) (hb : base + S31.numel ≤ 66) (h : ∀ a, (![i] : Fin 1 → ℕ) a + S1.size a ≤ S31.size a)
    (hq : (Rect.unit (s := S31) ![i] S1.size h).shape.Squeezes S_) :
    ((((SemArray.consecutive base S31 hb : DmaSems sig S31).slice (Rect.unit (s := S31) ![i] S1.size h)).squeeze S_ hq).sem : Fin 66).val = base + i := by
  have key : ∀ j : (Rect.unit (s := S31) ![i] S1.size h).shape.Idx, (S31.rowMajor ((Rect.unit (s := S31) ![i] S1.size h).emb j)).val = i := by
    intro j
    refine (Shape.rowMajor_val_one _).trans ?_
    refine (ValueKit.rect_emb_unit_val (s := S31) ![i] S1.size h j 0).trans ?_
    have hj : (j 0).val < 1 := (j 0).isLt
    show i + (j 0).val = i
    omega
  exact congrArg (base + ·) (key _)

/-- The program's send semaphore `i`. -/
theorem sem_send (i : ℕ) (h : ∀ a, (![i] : Fin 1 → ℕ) a + S1.size a ≤ S31.size a) (hq : (Rect.unit (s := S31) ![i] S1.size h).shape.Squeezes S_) :
    ((cc0_scratch1.slice (Rect.unit (s := S31) ![i] S1.size h)).squeeze S_ hq).sem = sendS i := by
  have hi : i + 1 ≤ 31 := h 0
  exact Fin.ext ((sem_at 4 i _ h hq).trans (sendS_val (by omega)).symm)
/-- The program's receive semaphore `i`. -/
theorem sem_recv (i : ℕ) (h : ∀ a, (![i] : Fin 1 → ℕ) a + S1.size a ≤ S31.size a) (hq : (Rect.unit (s := S31) ![i] S1.size h).shape.Squeezes S_) :
    ((cc0_scratch2.slice (Rect.unit (s := S31) ![i] S1.size h)).squeeze S_ hq).sem = recvS i := by
  have hi : i + 1 ≤ 31 := h 0
  exact Fin.ext ((sem_at 35 i _ h hq).trans (recvS_val (by omega)).symm)

end Cert.Moe

end
-- ==== Proof.Parts.lean ====
/-
# The body's parts, one lemma each

A part of the body is a stretch of operations of one kind; its lemma takes the state before the stretch to the state after.
-/
module

public import proofs.«01_k».proof.Proof.Steps

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A function of the kernel's buffers and semaphore arrays, at the ones this launch hands it. -/
abbrev onBufs {R : Type _} (f : (arg0 : Memref sig .tc .vmem S256x128 .f32) → arg0.IsWhole → (arg1 : Memref sig .tc .vmem S256x1 .i32) → arg1.IsWhole
    → (arg2 : Memref sig .tc .vmem S2x128x256 .f32) → arg2.IsWhole → (arg3 : Memref sig .tc .vmem S256x256 .f32) → arg3.IsWhole
    → (arg4 : Memref sig .tc .vmem S256x256 .f32) → arg4.IsWhole → DmaSems sig S31 → DmaSems sig S31 → R) : R :=
  f xM (Memref.isWhole_whole _) eM (Memref.isWhole_whole _) wM (Memref.isWhole_whole _) oM (Memref.isWhole_whole _)
    rM (Memref.isWhole_whole _) cc0_scratch1 cc0_scratch2

variable (K : Dev nD × Fin 63 → ℕ) (c : Dev nD)

/-- Signals 0 to 4. -/
theorem run_part1 {Q} :
    SigSt m K c 0 ⊢ iprop((∀ w, SigSt m K c 5 -∗ Q ⟨c, devWord c, SemArray.scalar (sig.barrier 0 rfl), w, 32#32⟩)
      -∗ wp frame (wpE (defs₀ (F := F)) 𝒱₀ (c : Thread nD τ) none) Set.univ (onBufs (k0_part1 (F := F))) Q) := by
  rw [k0_part1_eq_skeleton]; unfold onBufs k0_part1_skel
  simp only [semSignalWord, Prog.lift, Prog.bind_op, Prog.bind_ret, Prog.pure_eq_ret, wp_deviceId]
  iintro Hs Hk
  iapply (wp_sig m K c (n := 0) (by decide) (dev_eq c (k0_dev1_eq c))) $$ Hs; iintro Hs
  iapply (wp_sig m K c (n := 1) (by decide) (dev_eq c (k0_dev2_eq c))) $$ Hs; iintro Hs
  iapply (wp_sig m K c (n := 2) (by decide) (dev_eq c (k0_dev3_eq c))) $$ Hs; iintro Hs
  iapply (wp_sig m K c (n := 3) (by decide) (dev_eq c (k0_dev4_eq c))) $$ Hs; iintro Hs
  iapply (wp_sig m K c (n := 4) (by decide) (dev_eq c (k0_dev5_eq c))) $$ Hs; iintro Hs
  rw [wp_ret]; imodintro; iapply Hk; iexact Hs

/-- Signals 5 to 10. -/
theorem run_part2 (v2 : BitVec 32) (v24 : BitVec 32) (c32_i32_20 : BitVec 32) {Q} :
    SigSt m K c 5 ⊢ iprop((∀ r, SigSt m K c 11 -∗ Q r)
      -∗ wp frame (wpE (defs₀ (F := F)) 𝒱₀ (c : Thread nD τ) none) Set.univ (onBufs (k0_part2 (F := F)) c v2 (SemArray.scalar (sig.barrier 0 rfl)) v24 c32_i32_20) Q) := by
  rw [k0_part2_eq_skeleton]; unfold onBufs k0_part2_skel
  simp only [semSignalWord, Prog.lift, Prog.bind_op, Prog.bind_ret, Prog.pure_eq_ret, wp_deviceId]
  iintro Hs Hk
  iapply (wp_sig m K c (n := 5) (by decide) (dev_eq c (k0_dev6_eq c))) $$ Hs; iintro Hs
  iapply (wp_sig m K c (n := 6) (by decide) (dev_eq c (k0_dev7_eq c))) $$ Hs; iintro Hs
  iapply (wp_sig m K c (n := 7) (by decide) (dev_eq c (k0_dev8_eq c))) $$ Hs; iintro Hs
  iapply (wp_sig m K c (n := 8) (by decide) (dev_eq c (k0_dev9_eq c))) $$ Hs; iintro Hs
  iapply (wp_sig m K c (n := 9) (by decide) (dev_eq c (k0_dev10_eq c))) $$ Hs; iintro Hs
  iapply (wp_sig m K c (n := 10) (by decide) (dev_eq c (k0_dev11_eq c))) $$ Hs; iintro Hs
  rw [wp_ret]; imodintro; iapply Hk; iexact Hs

/-- Signals 11 to 16. -/
theorem run_part3 (v2 : BitVec 32) (v48 : BitVec 32) (c32_i32_44 : BitVec 32) {Q} :
    SigSt m K c 11 ⊢ iprop((∀ r, SigSt m K c 17 -∗ Q r)
      -∗ wp frame (wpE (defs₀ (F := F)) 𝒱₀ (c : Thread nD τ) none) Set.univ (onBufs (k0_part3 (F := F)) c v2 (SemArray.scalar (sig.barrier 0 rfl)) v48 c32_i32_44) Q) := by
  rw [k0_part3_eq_skeleton]; unfold onBufs k0_part3_skel
  simp only [semSignalWord, Prog.lift, Prog.bind_op, Prog.bind_ret, Prog.pure_eq_ret, wp_deviceId]
  iintro Hs Hk
  iapply (wp_sig m K c (n := 11) (by decide) (dev_eq c (k0_dev12_eq c))) $$ Hs; iintro Hs
  iapply (wp_sig m K c (n := 12) (by decide) (dev_eq c (k0_dev13_eq c))) $$ Hs; iintro Hs
  iapply (wp_sig m K c (n := 13) (by decide) (dev_eq c (k0_dev14_eq c))) $$ Hs; iintro Hs
  iapply (wp_sig m K c (n := 14) (by decide) (dev_eq c (k0_dev15_eq c))) $$ Hs; iintro Hs
  iapply (wp_sig m K c (n := 15) (by decide) (dev_eq c (k0_dev16_eq c))) $$ Hs; iintro Hs
  iapply (wp_sig m K c (n := 16) (by decide) (dev_eq c (k0_dev17_eq c))) $$ Hs; iintro Hs
  rw [wp_ret]; imodintro; iapply Hk; iexact Hs

/-- Signals 17 to 22. -/
theorem run_part4 (v2 : BitVec 32) (v72 : BitVec 32) (c32_i32_68 : BitVec 32) {Q} :
    SigSt m K c 17 ⊢ iprop((∀ r, SigSt m K c 23 -∗ Q r)
      -∗ wp frame (wpE (defs₀ (F := F)) 𝒱₀ (c : Thread nD τ) none) Set.univ (onBufs (k0_part4 (F := F)) c v2 (SemArray.scalar (sig.barrier 0 rfl)) v72 c32_i32_68) Q) := by
  rw [k0_part4_eq_skeleton]; unfold onBufs k0_part4_skel
  simp only [semSignalWord, Prog.lift, Prog.bind_op, Prog.bind_ret, Prog.pure_eq_ret, wp_deviceId]
  iintro Hs Hk
  iapply (wp_sig m K c (n := 17) (by decide) (dev_eq c (k0_dev18_eq c))) $$ Hs; iintro Hs
  iapply (wp_sig m K c (n := 18) (by decide) (dev_eq c (k0_dev19_eq c))) $$ Hs; iintro Hs
  iapply (wp_sig m K c (n := 19) (by decide) (dev_eq c (k0_dev20_eq c))) $$ Hs; iintro Hs
  iapply (wp_sig m K c (n := 20) (by decide) (dev_eq c (k0_dev21_eq c))) $$ Hs; iintro Hs
  iapply (wp_sig m K c (n := 21) (by decide) (dev_eq c (k0_dev22_eq c))) $$ Hs; iintro Hs
  iapply (wp_sig m K c (n := 22) (by decide) (dev_eq c (k0_dev23_eq c))) $$ Hs; iintro Hs
  rw [wp_ret]; imodintro; iapply Hk; iexact Hs

/-- Signals 23 to 28. -/
theorem run_part5 (v2 : BitVec 32) (v96 : BitVec 32) (c32_i32_92 : BitVec 32) {Q} :
    SigSt m K c 23 ⊢ iprop((∀ r, SigSt m K c 29 -∗ Q r)
      -∗ wp frame (wpE (defs₀ (F := F)) 𝒱₀ (c : Thread nD τ) none) Set.univ (onBufs (k0_part5 (F := F)) c v2 (SemArray.scalar (sig.barrier 0 rfl)) v96 c32_i32_92) Q) := by
  rw [k0_part5_eq_skeleton]; unfold onBufs k0_part5_skel
  simp only [semSignalWord, Prog.lift, Prog.bind_op, Prog.bind_ret, Prog.pure_eq_ret, wp_deviceId]
  iintro Hs Hk
  iapply (wp_sig m K c (n := 23) (by decide) (dev_eq c (k0_dev24_eq c))) $$ Hs; iintro Hs
  iapply (wp_sig m K c (n := 24) (by decide) (dev_eq c (k0_dev25_eq c))) $$ Hs; iintro Hs
  iapply (wp_sig m K c (n := 25) (by decide) (dev_eq c (k0_dev26_eq c))) $$ Hs; iintro Hs
  iapply (wp_sig m K c (n := 26) (by decide) (dev_eq c (k0_dev27_eq c))) $$ Hs; iintro Hs
  iapply (wp_sig m K c (n := 27) (by decide) (dev_eq c (k0_dev28_eq c))) $$ Hs; iintro Hs
  iapply (wp_sig m K c (n := 28) (by decide) (dev_eq c (k0_dev29_eq c))) $$ Hs; iintro Hs
  rw [wp_ret]; imodintro; iapply Hk; iexact Hs

/-- Sends 2 to 4. -/
theorem run_part9 (v2 : BitVec 32) {Q} :
    SndSt m K c 2 ⊢ iprop((∀ r, SndSt m K c 5 -∗ Q r)
      -∗ wp frame (wpE (defs₀ (F := F)) 𝒱₀ (c : Thread nD τ) none) Set.univ (onBufs (k0_part9 (F := F)) c v2) Q) := by
  rw [k0_part9_eq_skeleton]; unfold onBufs k0_part9_skel
  simp only [semSignalWord, Prog.lift, Prog.bind_op, Prog.bind_ret, Prog.pure_eq_ret, wp_deviceId, sem_send, sem_recv]
  iintro Hs Hk
  iapply (wp_snd m K c (n := 2) (by decide) (dev_eq c (k0_dev34_eq c)) (k0_off2_eq c)) $$ Hs; iintro Hs
  iapply (wp_snd m K c (n := 3) (by decide) (dev_eq c (k0_dev35_eq c)) (k0_off2_eq c)) $$ Hs; iintro Hs
  iapply (wp_snd m K c (n := 4) (by decide) (dev_eq c (k0_dev36_eq c)) (k0_off2_eq c)) $$ Hs; iintro Hs
  rw [wp_ret]; imodintro; iapply Hk; iexact Hs

/-- Sends 5 to 7. -/
theorem run_part10 (v2 : BitVec 32) {Q} :
    SndSt m K c 5 ⊢ iprop((∀ r, SndSt m K c 8 -∗ Q r)
      -∗ wp frame (wpE (defs₀ (F := F)) 𝒱₀ (c : Thread nD τ) none) Set.univ (onBufs (k0_part10 (F := F)) c v2) Q) := by
  rw [k0_part10_eq_skeleton]; unfold onBufs k0_part10_skel
  simp only [semSignalWord, Prog.lift, Prog.bind_op, Prog.bind_ret, Prog.pure_eq_ret, wp_deviceId, sem_send, sem_recv]
  iintro Hs Hk
  iapply (wp_snd m K c (n := 5) (by decide) (dev_eq c (k0_dev37_eq c)) (k0_off2_eq c)) $$ Hs; iintro Hs
  iapply (wp_snd m K c (n := 6) (by decide) (dev_eq c (k0_dev38_eq c)) (k0_off2_eq c)) $$ Hs; iintro Hs
  iapply (wp_snd m K c (n := 7) (by decide) (dev_eq c (k0_dev39_eq c)) (k0_off2_eq c)) $$ Hs; iintro Hs
  rw [wp_ret]; imodintro; iapply Hk; iexact Hs

/-- Sends 8 to 11. -/
theorem run_part11 (v2 : BitVec 32) {Q} :
    SndSt m K c 8 ⊢ iprop((∀ r, SndSt m K c 12 -∗ Q r)
      -∗ wp frame (wpE (defs₀ (F := F)) 𝒱₀ (c : Thread nD τ) none) Set.univ (onBufs (k0_part11 (F := F)) c v2) Q) := by
  rw [k0_part11_eq_skeleton]; unfold onBufs k0_part11_skel
  simp only [semSignalWord, Prog.lift, Prog.bind_op, Prog.bind_ret, Prog.pure_eq_ret, wp_deviceId, sem_send, sem_recv]
  iintro Hs Hk
  iapply (wp_snd m K c (n := 8) (by decide) (dev_eq c (k0_dev40_eq c)) (k0_off2_eq c)) $$ Hs; iintro Hs
  iapply (wp_snd m K c (n := 9) (by decide) (dev_eq c (k0_dev41_eq c)) (k0_off2_eq c)) $$ Hs; iintro Hs
  iapply (wp_snd m K c (n := 10) (by decide) (dev_eq c (k0_dev42_eq c)) (k0_off2_eq c)) $$ Hs; iintro Hs
  iapply (wp_snd m K c (n := 11) (by decide) (dev_eq c (k0_dev43_eq c)) (k0_off2_eq c)) $$ Hs; iintro Hs
  rw [wp_ret]; imodintro; iapply Hk; iexact Hs

/-- Sends 12 to 14. -/
theorem run_part12 (v2 : BitVec 32) (v329 : BitVec 32) {Q} :
    SndSt m K c 12 ⊢ iprop((∀ r, SndSt m K c 15 -∗ Q r)
      -∗ wp frame (wpE (defs₀ (F := F)) 𝒱₀ (c : Thread nD τ) none) Set.univ (onBufs (k0_part12 (F := F)) c v2 v329) Q) := by
  rw [k0_part12_eq_skeleton]; unfold onBufs k0_part12_skel
  simp only [semSignalWord, Prog.lift, Prog.bind_op, Prog.bind_ret, Prog.pure_eq_ret, wp_deviceId, sem_send, sem_recv]
  iintro Hs Hk
  iapply (wp_snd m K c (n := 12) (by decide) (dev_eq c (k0_dev44_eq c)) (k0_off2_eq c)) $$ Hs; iintro Hs
  iapply (wp_snd m K c (n := 13) (by decide) (dev_eq c (k0_dev45_eq c)) (k0_off2_eq c)) $$ Hs; iintro Hs
  iapply (wp_snd m K c (n := 14) (by decide) (dev_eq c (k0_dev46_eq c)) (k0_off2_eq c)) $$ Hs; iintro Hs
  rw [wp_ret]; imodintro; iapply Hk; iexact Hs

/-- Sends 15 to 17. -/
theorem run_part13 (v2 : BitVec 32) (v360 : BitVec 32) {Q} :
    SndSt m K c 15 ⊢ iprop((∀ r, SndSt m K c 18 -∗ Q r)
      -∗ wp frame (wpE (defs₀ (F := F)) 𝒱₀ (c : Thread nD τ) none) Set.univ (onBufs (k0_part13 (F := F)) c v2 v360) Q) := by
  rw [k0_part13_eq_skeleton]; unfold onBufs k0_part13_skel
  simp only [semSignalWord, Prog.lift, Prog.bind_op, Prog.bind_ret, Prog.pure_eq_ret, wp_deviceId, sem_send, sem_recv]
  iintro Hs Hk
  iapply (wp_snd m K c (n := 15) (by decide) (dev_eq c (k0_dev47_eq c)) (k0_off2_eq c)) $$ Hs; iintro Hs
  iapply (wp_snd m K c (n := 16) (by decide) (dev_eq c (k0_dev48_eq c)) (k0_off2_eq c)) $$ Hs; iintro Hs
  iapply (wp_snd m K c (n := 17) (by decide) (dev_eq c (k0_dev49_eq c)) (k0_off2_eq c)) $$ Hs; iintro Hs
  rw [wp_ret]; imodintro; iapply Hk; iexact Hs

/-- Sends 18 to 20. -/
theorem run_part14 (v2 : BitVec 32) (v391 : BitVec 32) {Q} :
    SndSt m K c 18 ⊢ iprop((∀ r, SndSt m K c 21 -∗ Q r)
      -∗ wp frame (wpE (defs₀ (F := F)) 𝒱₀ (c : Thread nD τ) none) Set.univ (onBufs (k0_part14 (F := F)) c v2 v391) Q) := by
  rw [k0_part14_eq_skeleton]; unfold onBufs k0_part14_skel
  simp only [semSignalWord, Prog.lift, Prog.bind_op, Prog.bind_ret, Prog.pure_eq_ret, wp_deviceId, sem_send, sem_recv]
  iintro Hs Hk
  iapply (wp_snd m K c (n := 18) (by decide) (dev_eq c (k0_dev50_eq c)) (k0_off2_eq c)) $$ Hs; iintro Hs
  iapply (wp_snd m K c (n := 19) (by decide) (dev_eq c (k0_dev51_eq c)) (k0_off2_eq c)) $$ Hs; iintro Hs
  iapply (wp_snd m K c (n := 20) (by decide) (dev_eq c (k0_dev52_eq c)) (k0_off2_eq c)) $$ Hs; iintro Hs
  rw [wp_ret]; imodintro; iapply Hk; iexact Hs

/-- Sends 21 to 23. -/
theorem run_part15 (v2 : BitVec 32) {Q} :
    SndSt m K c 21 ⊢ iprop((∀ r, SndSt m K c 24 -∗ Q r)
      -∗ wp frame (wpE (defs₀ (F := F)) 𝒱₀ (c : Thread nD τ) none) Set.univ (onBufs (k0_part15 (F := F)) c v2) Q) := by
  rw [k0_part15_eq_skeleton]; unfold onBufs k0_part15_skel
  simp only [semSignalWord, Prog.lift, Prog.bind_op, Prog.bind_ret, Prog.pure_eq_ret, wp_deviceId, sem_send, sem_recv]
  iintro Hs Hk
  iapply (wp_snd m K c (n := 21) (by decide) (dev_eq c (k0_dev53_eq c)) (k0_off2_eq c)) $$ Hs; iintro Hs
  iapply (wp_snd m K c (n := 22) (by decide) (dev_eq c (k0_dev54_eq c)) (k0_off2_eq c)) $$ Hs; iintro Hs
  iapply (wp_snd m K c (n := 23) (by decide) (dev_eq c (k0_dev55_eq c)) (k0_off2_eq c)) $$ Hs; iintro Hs
  rw [wp_ret]; imodintro; iapply Hk; iexact Hs

/-- Sends 24 to 26. -/
theorem run_part16 (v2 : BitVec 32) {Q} :
    SndSt m K c 24 ⊢ iprop((∀ r, SndSt m K c 27 -∗ Q r)
      -∗ wp frame (wpE (defs₀ (F := F)) 𝒱₀ (c : Thread nD τ) none) Set.univ (onBufs (k0_part16 (F := F)) c v2) Q) := by
  rw [k0_part16_eq_skeleton]; unfold onBufs k0_part16_skel
  simp only [semSignalWord, Prog.lift, Prog.bind_op, Prog.bind_ret, Prog.pure_eq_ret, wp_deviceId, sem_send, sem_recv]
  iintro Hs Hk
  iapply (wp_snd m K c (n := 24) (by decide) (dev_eq c (k0_dev56_eq c)) (k0_off2_eq c)) $$ Hs; iintro Hs
  iapply (wp_snd m K c (n := 25) (by decide) (dev_eq c (k0_dev57_eq c)) (k0_off2_eq c)) $$ Hs; iintro Hs
  iapply (wp_snd m K c (n := 26) (by decide) (dev_eq c (k0_dev58_eq c)) (k0_off2_eq c)) $$ Hs; iintro Hs
  rw [wp_ret]; imodintro; iapply Hk; iexact Hs

/-- Sends 27 to 30. -/
theorem run_part17 (v2 : BitVec 32) {Q} :
    SndSt m K c 27 ⊢ iprop((SndSt m K c 31 -∗ Q (iota .tc S256x64 32 [1] iota_S256x64_d1_w32))
      -∗ wp frame (wpE (defs₀ (F := F)) 𝒱₀ (c : Thread nD τ) none) Set.univ (onBufs (k0_part17 (F := F)) c v2) Q) := by
  rw [k0_part17_eq_skeleton]; unfold onBufs k0_part17_skel
  simp only [semSignalWord, Prog.lift, Prog.bind_op, Prog.bind_ret, Prog.pure_eq_ret, wp_deviceId, sem_send, sem_recv]
  iintro Hs Hk
  iapply (wp_snd m K c (n := 27) (by decide) (dev_eq c (k0_dev59_eq c)) (k0_off2_eq c)) $$ Hs; iintro Hs
  iapply (wp_snd m K c (n := 28) (by decide) (dev_eq c (k0_dev60_eq c)) (k0_off2_eq c)) $$ Hs; iintro Hs
  iapply (wp_snd m K c (n := 29) (by decide) (dev_eq c (k0_dev61_eq c)) (k0_off2_eq c)) $$ Hs; iintro Hs
  iapply (wp_snd m K c (n := 30) (by decide) (dev_eq c (k0_dev62_eq c)) (k0_off2_eq c)) $$ Hs; iintro Hs
  rw [wp_ret]; imodintro; iapply Hk; iexact Hs

/-- Receive waits 0 to 0. -/
theorem run_part18 (v2 : BitVec 32) (v129 : IVec S256x1 32) (v143 : FVec F S256x256 .f32) (v519 : IVec S256x64 32) {Q} :
    RcvSt m K c 0 ⊢ iprop((RcvSt m K c 1 -∗ Q (k0_pay9 v129 v143 v519))
      -∗ wp frame (wpE (defs₀ (F := F)) 𝒱₀ (c : Thread nD τ) none) Set.univ (onBufs (k0_part18 (F := F)) c v2 v129 v143 v519) Q) := by
  rw [k0_part18_eq_skeleton]; unfold onBufs k0_part18_skel
  simp only [semSignalWord, Prog.lift, Prog.bind_op, Prog.bind_ret, Prog.pure_eq_ret, wp_deviceId, sem_recv]
  iintro Hs Hk
  iapply (wp_rcv m K c (n := 0) (by decide)) $$ Hs; iintro Hs
  rw [wp_ret]; imodintro; iapply Hk; iexact Hs

/-- Receive waits 1 to 2. -/
theorem run_part19 (v2 : BitVec 32) {Q} :
    RcvSt m K c 1 ⊢ iprop((∀ r, RcvSt m K c 3 -∗ Q r)
      -∗ wp frame (wpE (defs₀ (F := F)) 𝒱₀ (c : Thread nD τ) none) Set.univ (onBufs (k0_part19 (F := F)) c v2) Q) := by
  rw [k0_part19_eq_skeleton]; unfold onBufs k0_part19_skel
  simp only [semSignalWord, Prog.lift, Prog.bind_op, Prog.bind_ret, Prog.pure_eq_ret, wp_deviceId, sem_recv]
  iintro Hs Hk
  iapply (wp_rcv m K c (n := 1) (by decide)) $$ Hs; iintro Hs
  iapply (wp_rcv m K c (n := 2) (by decide)) $$ Hs; iintro Hs
  rw [wp_ret]; imodintro; iapply Hk; iexact Hs

/-- Receive waits 3 to 5. -/
theorem run_part20 (v2 : BitVec 32) {Q} :
    RcvSt m K c 3 ⊢ iprop((∀ r, RcvSt m K c 6 -∗ Q r)
      -∗ wp frame (wpE (defs₀ (F := F)) 𝒱₀ (c : Thread nD τ) none) Set.univ (onBufs (k0_part20 (F := F)) c v2) Q) := by
  rw [k0_part20_eq_skeleton]; unfold onBufs k0_part20_skel
  simp only [semSignalWord, Prog.lift, Prog.bind_op, Prog.bind_ret, Prog.pure_eq_ret, wp_deviceId, sem_recv]
  iintro Hs Hk
  iapply (wp_rcv m K c (n := 3) (by decide)) $$ Hs; iintro Hs
  iapply (wp_rcv m K c (n := 4) (by decide)) $$ Hs; iintro Hs
  iapply (wp_rcv m K c (n := 5) (by decide)) $$ Hs; iintro Hs
  rw [wp_ret]; imodintro; iapply Hk; iexact Hs

/-- Receive waits 6 to 8. -/
theorem run_part21 (v2 : BitVec 32) {Q} :
    RcvSt m K c 6 ⊢ iprop((∀ r, RcvSt m K c 9 -∗ Q r)
      -∗ wp frame (wpE (defs₀ (F := F)) 𝒱₀ (c : Thread nD τ) none) Set.univ (onBufs (k0_part21 (F := F)) c v2) Q) := by
  rw [k0_part21_eq_skeleton]; unfold onBufs k0_part21_skel
  simp only [semSignalWord, Prog.lift, Prog.bind_op, Prog.bind_ret, Prog.pure_eq_ret, wp_deviceId, sem_recv]
  iintro Hs Hk
  iapply (wp_rcv m K c (n := 6) (by decide)) $$ Hs; iintro Hs
  iapply (wp_rcv m K c (n := 7) (by decide)) $$ Hs; iintro Hs
  iapply (wp_rcv m K c (n := 8) (by decide)) $$ Hs; iintro Hs
  rw [wp_ret]; imodintro; iapply Hk; iexact Hs

/-- Receive waits 9 to 11. -/
theorem run_part22 (v2 : BitVec 32) (v644 : BitVec 32) {Q} :
    RcvSt m K c 9 ⊢ iprop((∀ r, RcvSt m K c 12 -∗ Q r)
      -∗ wp frame (wpE (defs₀ (F := F)) 𝒱₀ (c : Thread nD τ) none) Set.univ (onBufs (k0_part22 (F := F)) c v2 v644) Q) := by
  rw [k0_part22_eq_skeleton]; unfold onBufs k0_part22_skel
  simp only [semSignalWord, Prog.lift, Prog.bind_op, Prog.bind_ret, Prog.pure_eq_ret, wp_deviceId, sem_recv]
  iintro Hs Hk
  iapply (wp_rcv m K c (n := 9) (by decide)) $$ Hs; iintro Hs
  iapply (wp_rcv m K c (n := 10) (by decide)) $$ Hs; iintro Hs
  iapply (wp_rcv m K c (n := 11) (by decide)) $$ Hs; iintro Hs
  rw [wp_ret]; imodintro; iapply Hk; iexact Hs

/-- Receive waits 12 to 14. -/
theorem run_part23 (v2 : BitVec 32) (v672 : BitVec 32) {Q} :
    RcvSt m K c 12 ⊢ iprop((∀ r, RcvSt m K c 15 -∗ Q r)
      -∗ wp frame (wpE (defs₀ (F := F)) 𝒱₀ (c : Thread nD τ) none) Set.univ (onBufs (k0_part23 (F := F)) c v2 v672) Q) := by
  rw [k0_part23_eq_skeleton]; unfold onBufs k0_part23_skel
  simp only [semSignalWord, Prog.lift, Prog.bind_op, Prog.bind_ret, Prog.pure_eq_ret, wp_deviceId, sem_recv]
  iintro Hs Hk
  iapply (wp_rcv m K c (n := 12) (by decide)) $$ Hs; iintro Hs
  iapply (wp_rcv m K c (n := 13) (by decide)) $$ Hs; iintro Hs
  iapply (wp_rcv m K c (n := 14) (by decide)) $$ Hs; iintro Hs
  rw [wp_ret]; imodintro; iapply Hk; iexact Hs

/-- Receive waits 15 to 17. -/
theorem run_part24 (v2 : BitVec 32) (v702 : BitVec 32) {Q} :
    RcvSt m K c 15 ⊢ iprop((∀ r, RcvSt m K c 18 -∗ Q r)
      -∗ wp frame (wpE (defs₀ (F := F)) 𝒱₀ (c : Thread nD τ) none) Set.univ (onBufs (k0_part24 (F := F)) c v2 v702) Q) := by
  rw [k0_part24_eq_skeleton]; unfold onBufs k0_part24_skel
  simp only [semSignalWord, Prog.lift, Prog.bind_op, Prog.bind_ret, Prog.pure_eq_ret, wp_deviceId, sem_recv]
  iintro Hs Hk
  iapply (wp_rcv m K c (n := 15) (by decide)) $$ Hs; iintro Hs
  iapply (wp_rcv m K c (n := 16) (by decide)) $$ Hs; iintro Hs
  iapply (wp_rcv m K c (n := 17) (by decide)) $$ Hs; iintro Hs
  rw [wp_ret]; imodintro; iapply Hk; iexact Hs

/-- Receive waits 18 to 20. -/
theorem run_part25 (v2 : BitVec 32) (v730 : BitVec 32) (c32_i32_588 : BitVec 32) {Q} :
    RcvSt m K c 18 ⊢ iprop((∀ r, RcvSt m K c 21 -∗ Q r)
      -∗ wp frame (wpE (defs₀ (F := F)) 𝒱₀ (c : Thread nD τ) none) Set.univ (onBufs (k0_part25 (F := F)) c v2 v730 c32_i32_588) Q) := by
  rw [k0_part25_eq_skeleton]; unfold onBufs k0_part25_skel
  simp only [semSignalWord, Prog.lift, Prog.bind_op, Prog.bind_ret, Prog.pure_eq_ret, wp_deviceId, sem_recv]
  iintro Hs Hk
  iapply (wp_rcv m K c (n := 18) (by decide)) $$ Hs; iintro Hs
  iapply (wp_rcv m K c (n := 19) (by decide)) $$ Hs; iintro Hs
  iapply (wp_rcv m K c (n := 20) (by decide)) $$ Hs; iintro Hs
  rw [wp_ret]; imodintro; iapply Hk; iexact Hs

/-- Receive waits 21 to 22. -/
theorem run_part26 (v2 : BitVec 32) {Q} :
    RcvSt m K c 21 ⊢ iprop((∀ r, RcvSt m K c 23 -∗ Q r)
      -∗ wp frame (wpE (defs₀ (F := F)) 𝒱₀ (c : Thread nD τ) none) Set.univ (onBufs (k0_part26 (F := F)) c v2) Q) := by
  rw [k0_part26_eq_skeleton]; unfold onBufs k0_part26_skel
  simp only [semSignalWord, Prog.lift, Prog.bind_op, Prog.bind_ret, Prog.pure_eq_ret, wp_deviceId, sem_recv]
  iintro Hs Hk
  iapply (wp_rcv m K c (n := 21) (by decide)) $$ Hs; iintro Hs
  iapply (wp_rcv m K c (n := 22) (by decide)) $$ Hs; iintro Hs
  rw [wp_ret]; imodintro; iapply Hk; iexact Hs

/-- Receive waits 23 to 25. -/
theorem run_part27 (v2 : BitVec 32) {Q} :
    RcvSt m K c 23 ⊢ iprop((∀ r, RcvSt m K c 26 -∗ Q r)
      -∗ wp frame (wpE (defs₀ (F := F)) 𝒱₀ (c : Thread nD τ) none) Set.univ (onBufs (k0_part27 (F := F)) c v2) Q) := by
  rw [k0_part27_eq_skeleton]; unfold onBufs k0_part27_skel
  simp only [semSignalWord, Prog.lift, Prog.bind_op, Prog.bind_ret, Prog.pure_eq_ret, wp_deviceId, sem_recv]
  iintro Hs Hk
  iapply (wp_rcv m K c (n := 23) (by decide)) $$ Hs; iintro Hs
  iapply (wp_rcv m K c (n := 24) (by decide)) $$ Hs; iintro Hs
  iapply (wp_rcv m K c (n := 25) (by decide)) $$ Hs; iintro Hs
  rw [wp_ret]; imodintro; iapply Hk; iexact Hs

/-- Receive waits 26 to 28. -/
theorem run_part28 (v2 : BitVec 32) {Q} :
    RcvSt m K c 26 ⊢ iprop((∀ r, RcvSt m K c 29 -∗ Q r)
      -∗ wp frame (wpE (defs₀ (F := F)) 𝒱₀ (c : Thread nD τ) none) Set.univ (onBufs (k0_part28 (F := F)) c v2) Q) := by
  rw [k0_part28_eq_skeleton]; unfold onBufs k0_part28_skel
  simp only [semSignalWord, Prog.lift, Prog.bind_op, Prog.bind_ret, Prog.pure_eq_ret, wp_deviceId, sem_recv]
  iintro Hs Hk
  iapply (wp_rcv m K c (n := 26) (by decide)) $$ Hs; iintro Hs
  iapply (wp_rcv m K c (n := 27) (by decide)) $$ Hs; iintro Hs
  iapply (wp_rcv m K c (n := 28) (by decide)) $$ Hs; iintro Hs
  rw [wp_ret]; imodintro; iapply Hk; iexact Hs

/-- Send waits 3 to 8. -/
theorem run_part30 {Q} :
    WtSt m K c 3 ⊢ iprop((∀ r, WtSt m K c 9 -∗ Q r)
      -∗ wp frame (wpE (defs₀ (F := F)) 𝒱₀ (c : Thread nD τ) none) Set.univ (onBufs (k0_part30 (F := F)) c) Q) := by
  rw [k0_part30_eq_skeleton]; unfold onBufs k0_part30_skel
  simp only [semSignalWord, Prog.lift, Prog.bind_op, Prog.bind_ret, Prog.pure_eq_ret, wp_deviceId, sem_send]
  iintro Hs Hk
  iapply (wp_wt m K c (n := 3) (by decide)) $$ Hs; iintro Hs
  iapply (wp_wt m K c (n := 4) (by decide)) $$ Hs; iintro Hs
  iapply (wp_wt m K c (n := 5) (by decide)) $$ Hs; iintro Hs
  iapply (wp_wt m K c (n := 6) (by decide)) $$ Hs; iintro Hs
  iapply (wp_wt m K c (n := 7) (by decide)) $$ Hs; iintro Hs
  iapply (wp_wt m K c (n := 8) (by decide)) $$ Hs; iintro Hs
  rw [wp_ret]; imodintro; iapply Hk; iexact Hs

/-- Send waits 9 to 14. -/
theorem run_part31 {Q} :
    WtSt m K c 9 ⊢ iprop((∀ r, WtSt m K c 15 -∗ Q r)
      -∗ wp frame (wpE (defs₀ (F := F)) 𝒱₀ (c : Thread nD τ) none) Set.univ (onBufs (k0_part31 (F := F)) c) Q) := by
  rw [k0_part31_eq_skeleton]; unfold onBufs k0_part31_skel
  simp only [semSignalWord, Prog.lift, Prog.bind_op, Prog.bind_ret, Prog.pure_eq_ret, wp_deviceId, sem_send]
  iintro Hs Hk
  iapply (wp_wt m K c (n := 9) (by decide)) $$ Hs; iintro Hs
  iapply (wp_wt m K c (n := 10) (by decide)) $$ Hs; iintro Hs
  iapply (wp_wt m K c (n := 11) (by decide)) $$ Hs; iintro Hs
  iapply (wp_wt m K c (n := 12) (by decide)) $$ Hs; iintro Hs
  iapply (wp_wt m K c (n := 13) (by decide)) $$ Hs; iintro Hs
  iapply (wp_wt m K c (n := 14) (by decide)) $$ Hs; iintro Hs
  rw [wp_ret]; imodintro; iapply Hk; iexact Hs

/-- Send waits 15 to 20. -/
theorem run_part32 {Q} :
    WtSt m K c 15 ⊢ iprop((∀ r, WtSt m K c 21 -∗ Q r)
      -∗ wp frame (wpE (defs₀ (F := F)) 𝒱₀ (c : Thread nD τ) none) Set.univ (onBufs (k0_part32 (F := F)) c) Q) := by
  rw [k0_part32_eq_skeleton]; unfold onBufs k0_part32_skel
  simp only [semSignalWord, Prog.lift, Prog.bind_op, Prog.bind_ret, Prog.pure_eq_ret, wp_deviceId, sem_send]
  iintro Hs Hk
  iapply (wp_wt m K c (n := 15) (by decide)) $$ Hs; iintro Hs
  iapply (wp_wt m K c (n := 16) (by decide)) $$ Hs; iintro Hs
  iapply (wp_wt m K c (n := 17) (by decide)) $$ Hs; iintro Hs
  iapply (wp_wt m K c (n := 18) (by decide)) $$ Hs; iintro Hs
  iapply (wp_wt m K c (n := 19) (by decide)) $$ Hs; iintro Hs
  iapply (wp_wt m K c (n := 20) (by decide)) $$ Hs; iintro Hs
  rw [wp_ret]; imodintro; iapply Hk; iexact Hs

/-- Send waits 21 to 26. -/
theorem run_part33 {Q} :
    WtSt m K c 21 ⊢ iprop((∀ r, WtSt m K c 27 -∗ Q r)
      -∗ wp frame (wpE (defs₀ (F := F)) 𝒱₀ (c : Thread nD τ) none) Set.univ (onBufs (k0_part33 (F := F)) c) Q) := by
  rw [k0_part33_eq_skeleton]; unfold onBufs k0_part33_skel
  simp only [semSignalWord, Prog.lift, Prog.bind_op, Prog.bind_ret, Prog.pure_eq_ret, wp_deviceId, sem_send]
  iintro Hs Hk
  iapply (wp_wt m K c (n := 21) (by decide)) $$ Hs; iintro Hs
  iapply (wp_wt m K c (n := 22) (by decide)) $$ Hs; iintro Hs
  iapply (wp_wt m K c (n := 23) (by decide)) $$ Hs; iintro Hs
  iapply (wp_wt m K c (n := 24) (by decide)) $$ Hs; iintro Hs
  iapply (wp_wt m K c (n := 25) (by decide)) $$ Hs; iintro Hs
  iapply (wp_wt m K c (n := 26) (by decide)) $$ Hs; iintro Hs
  rw [wp_ret]; imodintro; iapply Hk; iexact Hs

end Cert.Moe

end
-- ==== Proof.Body.lean ====
/-
# The body

The parts that change from one kind of operation to the next or that touch the memory, and the whole body from what a device
holds at its start to what it holds at its end.
-/
module

public import proofs.«01_k».proof.Proof.Parts

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 63 → ℕ) (c : Dev nD)

/-- A whole buffer of device `c`. -/
abbrev whole (b : Ref sig .tc) (f : Buf (Elt F) ((c : Thread nD τ).loc b)) : sProp 𝕄 := ((c : Thread nD τ).loc b) ↦{fullShare} f

/-- The two zero offsets, as a constant function. -/
theorem hz2 : (![0, 0] : Fin 2 → ℕ) = fun _ => 0 := by funext a; fin_cases a <;> rfl

omit [FloatOps F] in
/-- A load of the whole tokens reads them as they are. -/
theorem read_x (f : (cc0_stg0_0 : Ref sig .tc).ty.Contents (Elt F)) :
    xM.view.readAt (Elt F) (Rect.unit (s := S256x128) ![0, 0] S256x128.size inb_S256x128_S256x128_0_0).toLoadRect f = f :=
  Memref.readAt_unit_zero (Elt F) cc0_stg0_0 hz2 _ f
omit [FloatOps F] in
/-- A load of the whole expert indices reads them as they are. -/
theorem read_e (f : (cc0_stg1_0 : Ref sig .tc).ty.Contents (Elt F)) :
    eM.view.readAt (Elt F) (Rect.unit (s := S256x1) ![0, 0] S256x1.size inb_S256x1_S256x1_0_0).toLoadRect f = f :=
  Memref.readAt_unit_zero (Elt F) cc0_stg1_0 hz2 _ f
omit [FloatOps F] in
/-- A load of the whole landing buffer reads it as it is. -/
theorem read_r (f : (cc0_scratch0 : Ref sig .tc).ty.Contents (Elt F)) :
    rM.view.readAt (Elt F) (Rect.unit (s := S256x256) ![0, 0] S256x256.size inb_S256x256_S256x256_0_0).toLoadRect f = f :=
  Memref.readAt_unit_zero (Elt F) cc0_scratch0 hz2 _ f
omit [FloatOps F] in
/-- A store of a whole result leaves the stored value. -/
theorem write_o (f w : (cc0_stg3_0 : Ref sig .tc).ty.Contents (Elt F)) :
    (oM.access (Rect.unit (s := S256x256) ![0, 0] S256x256.size inb_S256x256_S256x256_0_0) : View sig .tc _ _ _).write (Elt F) f w Finset.univ = w :=
  Memref.write_access_unit_zero_univ (Elt F) cc0_stg3_0 hz2 _ f w

/-! ## Signals, and the loads of the operands -/

/-- The last two signals, and the load of the expert indices. -/
theorem run_part6 (v2 : BitVec 32) (v120 : BitVec 32) (w : BitVec 32) {Q} :
    iprop(SigSt m K c 29 ∗ whole c cc0_stg1_0 (estg m c))
      ⊢ iprop((SigSt m K c 31 -∗ whole c cc0_stg1_0 (estg m c)
          -∗ Q ⟨k0_pay2 (estg m c), k0_pay4 (F := F), k0_pay5 v2 (estg m c), k0_pay6 v2 (estg m c), iota .tc S1x8 32 [1] iota_S1x8_d1_w32, 4#32, Scalar.cmpi .eq 4#32 0#32⟩)
      -∗ wp frame (wpE (defs₀ (F := F)) 𝒱₀ (c : Thread nD τ) none) Set.univ (onBufs (k0_part6 (F := F)) c v2 (SemArray.scalar (sig.barrier 0 rfl)) v120 w) Q) := by
  rw [k0_part6_eq_skeleton]; unfold onBufs k0_part6_skel
  simp only [semSignalWord, Prog.lift, Prog.bind_op, Prog.bind_ret, Prog.pure_eq_ret, wp_deviceId]
  iintro ⟨Hs, He⟩ Hk
  iapply (wp_sig m K c (n := 29) (by decide) (dev_eq c (k0_dev30_eq c))) $$ Hs; iintro Hs
  iapply (wp_sig m K c (n := 30) (by decide) (dev_eq c (k0_dev31_eq c))) $$ Hs; iintro Hs
  iapply (wp_load 𝒱₀ (c : Thread nD τ) none Set.univ (m := eM) (Finset.subset_univ _)) $$ He; iintro He
  rw [read_e, wp_ret]; imodintro
  iapply Hk $$ Hs He

/-- The loads of the tokens and of the two experts' weights. -/
theorem run_part7 (v2 : BitVec 32) (v153 : FVec F S256x8 .f32) (v162 : FVec F S256x8 .f32) (v163 : IVec S1x8 32) (w : BitVec 32) (v164 : BitVec 1) {Q} :
    iprop(whole c cc0_stg0_0 (xstg m c) ∗ whole c cc0_stg2_0 (wstg m c))
      ⊢ iprop((whole c cc0_stg0_0 (xstg m c) -∗ whole c cc0_stg2_0 (wstg m c)
          -∗ Q (k0_pay7 v153 v162 v163 w v164 (xstg m c) (wM.view.readAt (Elt F) w0R.toLoadRect (wstg m c)) (wM.view.readAt (Elt F) w1R.toLoadRect (wstg m c))))
      -∗ wp frame (wpE (defs₀ (F := F)) 𝒱₀ (c : Thread nD τ) none) Set.univ (onBufs (k0_part7 (F := F)) v2 v153 v162 v163 w v164) Q) := by
  rw [k0_part7_eq_skeleton]; unfold onBufs k0_part7_skel
  simp only [Prog.lift, Prog.bind_op, Prog.bind_ret, Prog.pure_eq_ret]
  iintro ⟨Hx, Hw⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  rw [read_x, wp_ret]; imodintro
  iapply Hk $$ Hx Hw

/-! ## The own rows, the barrier, the first sends -/

omit [FloatOps F] in
/-- A share of a block, written out. -/
theorem blkAt_eq (q : PosShare TreeShare) (b : ℕ) (f : (cc0_scratch0 : Ref sig .tc).ty.Contents (Elt F)) :
    (blkAt q c b f : sProp 𝕄) = (((c : Thread nD τ).loc cc0_scratch0) ↦[rows b]{q} f) := rfl

/-- A row block at its full share is the share no send takes and the thirty-one shares the sends take. -/
theorem blk_shares (b : ℕ) (f : (cc0_scratch0 : Ref sig .tc).ty.Contents (Elt F)) :
    (blkAt fullShare c b f : sProp 𝕄) = iprop(blkAt shr₀ c b f ∗ bigSep (Finset.range 31) fun o => blkAt (shr o) c b f) := by
  unfold blkAt
  refine (ShareLeaves.pointsTo_leaves (ℓ := (c : Thread nD τ).loc cc0_scratch0) (rows b) f 5 fullShare).trans ?_
  refine (bigSep_univ_at (fun i : Dev nD => (((c : Thread nD τ).loc cc0_scratch0) ↦[rows b]{ShareLeaves.leaf 5 fullShare i} f : sProp 𝕄)) ⟨0, by decide⟩).trans ?_
  rw [others_peer]
  refine congrArg _ (bigSep_congr fun o _ => ?_)
  have e : (peer ⟨0, by decide⟩ o : Fin (2 ^ 5)) = ⟨(o + 1) % 32, Nat.mod_lt _ (by decide)⟩ :=
    Fin.ext (by show (0 + (o + 1)) % 32 = (o + 1) % 32; rw [Nat.zero_add])
  exact congrArg (fun i : Fin (2 ^ 5) => (((c : Thread nD τ).loc cc0_scratch0) ↦[rows b]{ShareLeaves.leaf 5 fullShare i} f : sProp 𝕄)) e

/-- What the body stores into its own rows is block `c` of the gathered array. -/
theorem stored_gath {off : Fin 2 → ℕ} (h : off = ![8 * c.val, 0]) (inb : ∀ a, off a + S8x256.size a ≤ S256x256.size a)
    (f : (cc0_scratch0 : Ref sig .tc).ty.Contents (Elt F)) :
    ∀ i ∈ rows c.val, ((rM : Memref sig .tc .vmem S256x256 .f32).access (Rect.unit (s := S256x256) off S8x256.size inb) : View sig .tc _ _ _).write (Elt F) f (chunk m c) Finset.univ i
      = gath m i := by
  intro i hi
  rw [← set_rows h inb] at hi
  obtain ⟨j, -, rfl⟩ := Finset.mem_map.mp hi
  refine (View.write_emb_of_mem _ _ (Finset.mem_univ j)).trans ?_
  exact (gath_emb m c h inb j).symm

/-- So the stored rows are the own block of the gathered array, in the shares the sends take and the one that none takes. -/
theorem stored_shares {off : Fin 2 → ℕ} (h : off = ![8 * c.val, 0]) (inb : ∀ a, off a + S8x256.size a ≤ S256x256.size a)
    (f : (cc0_scratch0 : Ref sig .tc).ty.Contents (Elt F)) :
    ((((c : Thread nD τ).loc cc0_scratch0) ↦[rows c.val]{fullShare}
        ((rM : Memref sig .tc .vmem S256x256 .f32).access (Rect.unit (s := S256x256) off S8x256.size inb) : View sig .tc _ _ _).write (Elt F) f (chunk m c) Finset.univ : sProp 𝕄))
      ⊢ iprop(blkAt shr₀ c c.val (gath m) ∗ bigSep (Finset.range 31) fun o => blkAt (shr o) c c.val (gath m)) :=
  Entails.of_eq ((pointsTo_congr (stored_gath m c h inb f)).trans (blk_shares c c.val (gath m)))

/-- The duties of `c`'s sends. -/
def sendToks : sProp 𝕄 := bigSep (Finset.range 31) fun o => iprop(dutyTok ER (sendCell c o) 0 d₀ ∗ dutyTok ER (recvCell (peer c o) o) 0 d₀)

/-- What the barrier wait needs beside what is owed, and what the sends need. -/
def preBar : sProp 𝕄 :=
  iprop((∃ f, blkPts c c f) ∗ cred (tallyAt (barCell c) () 31) ∗ atPos ER (barCell c) 0 ∅ 0 ∗ levAts L lv ∗ sendToks (F := F) c)

/-- The store of the own rows, the barrier wait, the first two sends. -/
theorem run_part8 (v2 : BitVec 32) (v202 : FVec F S8x256 .f32) (hv : k0_pay8 v202 = chunk m c) {Q} :
    iprop(SigSt m K c 31 ∗ preBar c)
      ⊢ iprop((∀ r, SndSt m K c 2 -∗ blkAt shr₀ c c.val (gath m) -∗ semVal (barCell c) 0 -∗ Q r)
      -∗ wp frame (wpE (defs₀ (F := F)) 𝒱₀ (c : Thread nD τ) none) Set.univ (onBufs (k0_part8 (F := F)) c v2 (SemArray.scalar (sig.barrier 0 rfl)) v202) Q) := by
  rw [k0_part8_eq_skeleton]; unfold onBufs k0_part8_skel
  simp only [semWaitWord, Prog.lift, Prog.bind_op, Prog.bind_ret, Prog.pure_eq_ret, sem_send, sem_recv]
  rw [hv]
  unfold preBar SigSt sendToks blkPts
  rw [owedBar_last]
  iintro ⟨⟨#HR, ⟨%W, HO⟩, -⟩, ⟨%f, Hb⟩, Hc, Hat, #Hlev, Ht⟩ Hk
  ihave Hb := (Entails.of_eq (blkAt_eq c fullShare c.val f)) $$ Hb
  iapply (wp_load 𝒱₀ (c : Thread nD τ) none Set.univ (m := rM)
    ((View.set_slice _ _).symm.trans (set_rows (k0_off1_eq c) (k0_off1_inb c))).le) $$ Hb; iintro Hb
  iapply (wp_store 𝒱₀ (c : Thread nD τ) none Set.univ (m := rM) (Mk := Finset.univ)
    ((set_rows (k0_off1_eq c) (k0_off1_inb c)).le)) $$ Hb; iintro Hb
  ihave Hb := (stored_shares m c (k0_off1_eq c) (k0_off1_inb c) f) $$ Hb
  icases Hb with ⟨Hb0, Hbs⟩
  iapply (Rounds.wp_wait_rest_token 𝒱₀ ER (ringRd m) (c : Thread nD τ) none (κ := K (c, 0))
      (wpE_semWait_eq 𝒱₀ (c : Thread nD τ) none Set.univ) (Set.mem_univ _) () (O := owedRecv c 0) (W := W) (R := 0) (m := 0) (T := ∅)
      (by rw [expect_bar]; decide)) $$ [Hc HO Hat]
  · isplitr; · iapply (rec_inv m K (c, 0) (kcell_bar _)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (ringRd m) (Set.mem_univ (K (c, 0))) (fun h => h) (R := 0 + 1) (duties_later m _)) $$ [Hat] with Hz
  · isplitr; · iapply (rec_inv m K (c, 0) (kcell_bar _)); iexact HR
    iexact Hat
  ihave Hs : SndSt m K c 0 $$ [HO Hp Hbs Ht]
  · unfold SndSt
    rw [← Finset.range_eq_Ico, Finset.range_zero, bigSep_empty]
    isplitr; · iexact HR
    isplitl [HO]; · iexists _; iexact HO
    isplitl [Hp Hbs Ht]
    · simp only [bigSep_sep']
      icases Ht with ⟨Ht1, Ht2⟩
      isplitl [Ht1]; · iexact Ht1
      isplitl [Ht2]; · iexact Ht2
      isplitl [Hbs]; · iexact Hbs
      iexact Hp
    iempintro
  iapply (wp_snd m K c (n := 0) (by decide) (dev_eq c (k0_dev32_eq c)) (k0_off2_eq c)) $$ Hs; iintro Hs
  iapply (wp_snd m K c (n := 1) (by decide) (dev_eq c (k0_dev33_eq c)) (k0_off2_eq c)) $$ Hs; iintro Hs
  rw [wp_ret]; imodintro; iapply Hk $$ Hs Hb0 Hz

/-! ## From the sends to the waits -/

/-- What the receive waits need. -/
def preRecv : sProp 𝕄 := bigSep (Finset.Ico 0 31) fun o => iprop(cred (tallyAt (recvCell c o) () N) ∗ atPos ER (recvCell c o) 0 ∅ 0)
/-- What the send waits need beside the credits that the sends give. -/
def preSend : sProp 𝕄 := bigSep (Finset.range 31) fun o => atPos ER (sendCell c o) 0 ∅ 0
/-- The credits of all the sends. -/
def sentCreds : sProp 𝕄 := bigSep (Finset.range 31) fun o => cred (tallyAt (sendCell c o) () N)
/-- Every other device's block, landed, and the receive semaphores at zero. -/
def landed : sProp 𝕄 := bigSep (Finset.range 31) fun o => iprop(blkPts c (sender c o) (gath m) ∗ semVal (recvCell c o) 0)
/-- The sends' shares of `c`'s own block, and the send semaphores at zero. -/
def returned : sProp 𝕄 := bigSep (Finset.range 31) fun o => iprop(blkAt (shr o) c c.val (gath m) ∗ semVal (sendCell c o) 0)

/-- With all sends done the receive waits begin. -/
theorem snd_rcv : iprop(SndSt m K c 31 ∗ preRecv c) ⊢ iprop(RcvSt m K c 0 ∗ sentCreds (F := F) c) := by
  unfold SndSt RcvSt preRecv sentCreds
  rw [owedRecv_last, Finset.range_zero, bigSep_empty]
  iintro ⟨⟨#HR, HO, -, Hc⟩, Hp⟩
  isplitl [HO Hp]
  · isplitr; · iexact HR
    isplitl [HO]; · iexact HO
    isplitl [Hp]; · iexact Hp
    iempintro
  iexact Hc

/-- With all receive waits done the send waits begin. -/
theorem rcv_wt : iprop(RcvSt m K c 31 ∗ sentCreds c ∗ preSend c) ⊢ iprop(WtSt m K c 0 ∗ landed m c) := by
  unfold WtSt RcvSt preSend sentCreds landed
  rw [← Finset.range_eq_Ico, Finset.range_zero, bigSep_empty, bigSep_sep' (Finset.range 31) (fun o => (cred (tallyAt (sendCell c o) () N) : sProp 𝕄))]
  iintro ⟨⟨#HR, HO, -, Hl⟩, Hc, Hp⟩
  isplitl [HO Hc Hp]
  · isplitr; · iexact HR
    isplitl [HO]; · iexact HO
    isplitl [Hc Hp]
    · isplitl [Hc] <;> iassumption
    iempintro
  iexact Hl

/-- The last two receive waits, the first three send waits. -/
theorem run_part29 (v2 : BitVec 32) (v844 : BitVec 32) {Q} :
    iprop(RcvSt m K c 29 ∗ sentCreds c ∗ preSend c) ⊢ iprop((∀ r, WtSt m K c 3 -∗ landed m c -∗ Q r)
      -∗ wp frame (wpE (defs₀ (F := F)) 𝒱₀ (c : Thread nD τ) none) Set.univ (onBufs (k0_part29 (F := F)) c v2 v844) Q) := by
  rw [k0_part29_eq_skeleton]; unfold onBufs k0_part29_skel
  simp only [Prog.lift, Prog.bind_op, Prog.bind_ret, Prog.pure_eq_ret, sem_send, sem_recv]
  iintro ⟨Hs, Hc, Hp⟩ Hk
  iapply (wp_rcv m K c (n := 29) (by decide)) $$ Hs; iintro Hs
  iapply (wp_rcv m K c (n := 30) (by decide)) $$ Hs; iintro Hs
  ihave H := (rcv_wt m K c) $$ [Hs Hc Hp]
  · isplitl [Hs]; · iexact Hs
    isplitl [Hc] <;> iassumption
  icases H with ⟨Hs, Hl⟩
  iapply (wp_wt m K c (n := 0) (by decide)) $$ Hs; iintro Hs
  iapply (wp_wt m K c (n := 1) (by decide)) $$ Hs; iintro Hs
  iapply (wp_wt m K c (n := 2) (by decide)) $$ Hs; iintro Hs
  rw [wp_ret]; imodintro; iapply Hk $$ Hs Hl

/-! ## The whole body -/

/-- What a device holds of the exchange at the body's start. -/
def ringIn : sProp 𝕄 := iprop(SigSt m K c 0 ∗ preBar c ∗ preRecv c ∗ preSend c)
/-- And at its end: every block of the gathered array — its own in the shares it was sent from —, every semaphore at zero. -/
def ringOut : sProp 𝕄 := iprop(blkAt shr₀ c c.val (gath m) ∗ returned m c ∗ landed m c ∗ semVal (barCell c) 0)

/-- The device's result: the gathered rows, each put where its token stands. -/
def outAt : FVec F S256x256 .f32 :=
  k0_pay1 (k0_pay9 (k0_pay2 (estg m c)) (k0_pay4 (F := F)) (iota .tc S256x64 32 [1] iota_S256x64_d1_w32)) (gath m)

/-- All parts in order. -/
theorem run_part34 {Q} :
    iprop(ringIn m K c ∗ whole c cc0_stg0_0 (xstg m c) ∗ whole c cc0_stg1_0 (estg m c) ∗ whole c cc0_stg2_0 (wstg m c))
      ⊢ iprop((WtSt m K c 29 -∗ blkAt shr₀ c c.val (gath m) -∗ landed m c -∗ semVal (barCell c) 0
          -∗ whole c cc0_stg0_0 (xstg m c) -∗ whole c cc0_stg1_0 (estg m c) -∗ whole c cc0_stg2_0 (wstg m c)
          -∗ Q ⟨c, k0_pay9 (k0_pay2 (estg m c)) (k0_pay4 (F := F)) (iota .tc S256x64 32 [1] iota_S256x64_d1_w32)⟩)
      -∗ wp frame (wpE (defs₀ (F := F)) 𝒱₀ (c : Thread nD τ) none) Set.univ (onBufs (k0_part34 (F := F))) Q) := by
  rw [k0_part34_eq_skeleton]; unfold onBufs k0_part34_skel ringIn
  iintro ⟨⟨Hs, Hbar, Hrcv, Hsnd⟩, Hx, He, Hw⟩ Hk
  rw [wp_bind]
  iapply (run_part1 m K c ) $$ Hs; iintro %_ Hs
  rw [wp_bind]
  iapply (run_part2 m K c _ _ _ ) $$ Hs; iintro %_ Hs
  rw [wp_bind]
  iapply (run_part3 m K c _ _ _ ) $$ Hs; iintro %_ Hs
  rw [wp_bind]
  iapply (run_part4 m K c _ _ _ ) $$ Hs; iintro %_ Hs
  rw [wp_bind]
  iapply (run_part5 m K c _ _ _ ) $$ Hs; iintro %_ Hs
  rw [wp_bind]
  iapply (run_part6 m K c _ _ _) $$ [Hs He]
  · isplitl [Hs] <;> iassumption
  iintro Hs He
  rw [wp_bind]
  iapply (run_part7 m c _ _ _ _ _ _) $$ [Hx Hw]
  · isplitl [Hx] <;> iassumption
  iintro Hx Hw
  rw [wp_bind]
  iapply (run_part8 m K c _ _ rfl) $$ [Hs Hbar]
  · isplitl [Hs] <;> iassumption
  iintro %_ Hs Hb Hz
  rw [wp_bind]
  iapply (run_part9 m K c _ ) $$ Hs; iintro %_ Hs
  rw [wp_bind]
  iapply (run_part10 m K c _ ) $$ Hs; iintro %_ Hs
  rw [wp_bind]
  iapply (run_part11 m K c _ ) $$ Hs; iintro %_ Hs
  rw [wp_bind]
  iapply (run_part12 m K c _ _ ) $$ Hs; iintro %_ Hs
  rw [wp_bind]
  iapply (run_part13 m K c _ _ ) $$ Hs; iintro %_ Hs
  rw [wp_bind]
  iapply (run_part14 m K c _ _ ) $$ Hs; iintro %_ Hs
  rw [wp_bind]
  iapply (run_part15 m K c _ ) $$ Hs; iintro %_ Hs
  rw [wp_bind]
  iapply (run_part16 m K c _ ) $$ Hs; iintro %_ Hs
  rw [wp_bind]
  iapply (run_part17 m K c _ ) $$ Hs; iintro  Hs
  ihave H := (snd_rcv m K c) $$ [Hs Hrcv]
  · isplitl [Hs] <;> iassumption
  icases H with ⟨Hs, Hc⟩
  rw [wp_bind]
  iapply (run_part18 m K c _ _ _ _ ) $$ Hs; iintro  Hs
  rw [wp_bind]
  iapply (run_part19 m K c _ ) $$ Hs; iintro %_ Hs
  rw [wp_bind]
  iapply (run_part20 m K c _ ) $$ Hs; iintro %_ Hs
  rw [wp_bind]
  iapply (run_part21 m K c _ ) $$ Hs; iintro %_ Hs
  rw [wp_bind]
  iapply (run_part22 m K c _ _ ) $$ Hs; iintro %_ Hs
  rw [wp_bind]
  iapply (run_part23 m K c _ _ ) $$ Hs; iintro %_ Hs
  rw [wp_bind]
  iapply (run_part24 m K c _ _ ) $$ Hs; iintro %_ Hs
  rw [wp_bind]
  iapply (run_part25 m K c _ _ _ ) $$ Hs; iintro %_ Hs
  rw [wp_bind]
  iapply (run_part26 m K c _ ) $$ Hs; iintro %_ Hs
  rw [wp_bind]
  iapply (run_part27 m K c _ ) $$ Hs; iintro %_ Hs
  rw [wp_bind]
  iapply (run_part28 m K c _ ) $$ Hs; iintro %_ Hs
  rw [wp_bind]
  iapply (run_part29 m K c _ _) $$ [Hs Hc Hsnd]
  · isplitl [Hs]; · iexact Hs
    isplitl [Hc] <;> iassumption
  iintro %_ Hs Hl
  rw [wp_bind]
  iapply (run_part30 m K c ) $$ Hs; iintro %_ Hs
  rw [wp_bind]
  iapply (run_part31 m K c ) $$ Hs; iintro %_ Hs
  rw [wp_bind]
  iapply (run_part32 m K c ) $$ Hs; iintro %_ Hs
  rw [wp_bind]
  iapply (run_part33 m K c ) $$ Hs; iintro %_ Hs
  simp only [Prog.lift, Prog.bind_op, Prog.bind_ret, Prog.pure_eq_ret, sem_send]
  iapply (wp_wt m K c (n := 27) (by decide)) $$ Hs; iintro Hs
  iapply (wp_wt m K c (n := 28) (by decide)) $$ Hs; iintro Hs
  rw [wp_ret]; imodintro
  iapply Hk $$ Hs Hb Hl Hz Hx He Hw

omit [FloatOps F] in
/-- The whole landing buffer is its thirty-two row blocks. -/
theorem blocks_whole (f : (cc0_scratch0 : Ref sig .tc).ty.Contents (Elt F)) :
    (whole c cc0_scratch0 f : sProp 𝕄) = bigSep Finset.univ (fun d : Dev nD => blkPts c d f) := by
  have h := pointsTo_biUnion (Ix := Unit) (Val := Elt F) (Name := ℕ) (U := UU) (Lvl := ℕ) (ℓ := (c : Thread nD τ).loc cc0_scratch0) (q := fullShare) (f := f) Finset.univ (fun d : Dev nD => rows d.val)
    (fun d _ d' _ h => rows_disjoint fun e => h (Fin.ext e))
  rw [rows_cover] at h
  exact h

/-- The body's end gives the landing buffer back whole, holding the gathered array. -/
theorem ringOut_whole : ringOut m c ⊢ iprop(whole c cc0_scratch0 (gath m) ∗ (bigSep (Finset.range 31) fun o => semVal (recvCell c o) 0)
    ∗ (bigSep (Finset.range 31) fun o => semVal (sendCell c o) 0) ∗ semVal (barCell c) 0) := by
  unfold ringOut returned landed
  rw [bigSep_sep', bigSep_sep', blocks_whole, bigSep_univ_at _ c, others_sender, blkPts, blk_shares]
  iintro ⟨Hb0, ⟨Hbs, Hz1⟩, ⟨Hl, Hz2⟩, Hz⟩
  isplitl [Hb0 Hbs Hl]
  · isplitl [Hb0 Hbs]
    · isplitl [Hb0] <;> iassumption
    iexact Hl
  isplitl [Hz2]; · iexact Hz2
  isplitl [Hz1] <;> iassumption

/-- The body, from a device's start to its end. -/
theorem run_body (g : (cc0_stg3_0 : Ref sig .tc).ty.Contents (Elt F)) {Q : PUnit → sProp 𝕄} :
    iprop(ringIn m K c ∗ whole c cc0_stg0_0 (xstg m c) ∗ whole c cc0_stg1_0 (estg m c) ∗ whole c cc0_stg2_0 (wstg m c) ∗ whole c cc0_stg3_0 g)
      ⊢ iprop(((∃ W, owes (c : Thread nD τ) 0 W) -∗ whole c cc0_scratch0 (gath m) -∗ (bigSep (Finset.range 31) fun o => semVal (recvCell c o) 0)
          -∗ (bigSep (Finset.range 31) fun o => semVal (sendCell c o) 0) -∗ semVal (barCell c) 0
          -∗ whole c cc0_stg0_0 (xstg m c) -∗ whole c cc0_stg1_0 (estg m c) -∗ whole c cc0_stg2_0 (wstg m c) -∗ whole c cc0_stg3_0 (outAt m c)
          -∗ Q ⟨⟩)
      -∗ wp frame (wpE (defs₀ (F := F)) 𝒱₀ (c : Thread nD τ) none) Set.univ (onBufs (cc0_body (F := F))) Q) := by
  rw [cc0_body_eq_skeleton]; unfold onBufs cc0_body_skel outAt
  iintro ⟨Hr, Hx, He, Hw, Ho⟩ Hk
  rw [wp_bind]
  iapply (run_part34 m K c) $$ [Hr Hx He Hw]
  · isplitl [Hr]; · iexact Hr
    isplitl [Hx]; · iexact Hx
    isplitl [He] <;> iassumption
  iintro Hs Hb Hl Hz Hx He Hw
  simp only [Prog.lift, Prog.bind_op, Prog.bind_ret, Prog.pure_eq_ret, sem_send]
  iapply (wp_wt m K c (n := 29) (by decide)) $$ Hs; iintro Hs
  iapply (wp_wt m K c (n := 30) (by decide)) $$ Hs; iintro Hs
  unfold WtSt
  icases Hs with ⟨-, HO, -, Hret⟩
  ihave H := (ringOut_whole m c) $$ [Hb Hret Hl Hz]
  · unfold ringOut returned
    isplitl [Hb]; · iexact Hb
    isplitl [Hret]; · iexact Hret
    isplitl [Hl] <;> iassumption
  icases H with ⟨Hr, Hz2, Hz1, Hz⟩
  iapply (wp_load 𝒱₀ (c : Thread nD τ) none Set.univ (m := rM) (Finset.subset_univ _)) $$ Hr; iintro Hr
  iapply (wp_load 𝒱₀ (c : Thread nD τ) none Set.univ (m := oM) (Finset.subset_univ _)) $$ Ho; iintro Ho
  iapply (wp_store 𝒱₀ (c : Thread nD τ) none Set.univ (m := oM) (r := Rect.unit (s := S256x256) ![0, 0] S256x256.size inb_S256x256_S256x256_0_0) (Mk := Finset.univ) (Finset.subset_univ _)) $$ Ho; iintro Ho
  rw [read_r, write_o, wp_ret]; imodintro
  iapply Hk $$ HO Hr Hz2 Hz1 Hz Hx He Hw Ho

end Cert.Moe

end
-- ==== Proof.Deal.lean ====
/-
# What the launch deals out

At launch every device's sixty-three cells of the exchange are opened, their positions stay with their owner, and the
duty tokens move to the devices that pay: the token of device `p` at a barrier goes to `p`, the token of a receive cell to
the device that sends there. The credits that the launch books are what the devices owe.
-/
module

public import proofs.«01_k».proof.Proof.Body

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over the cells -/

omit [FloatOps F] in
/-- Two iterated conjunctions change places. -/
theorem swap {A B : Type} [DecidableEq A] (s : Finset A) (t : Finset B) (Φ : A → B → sProp 𝕄) :
    bigSep s (fun a => bigSep t (Φ a)) = bigSep t (fun b => bigSep s (fun a => Φ a b)) := by
  induction s using Finset.induction_on with
  | empty =>
    refine bigSep_empty.trans ?_
    classical
    induction t using Finset.induction_on with
    | empty => exact bigSep_empty.symm
    | insert b t hb ih =>
      rw [bigSep_insert hb, ← ih, bigSep_empty]
      exact (equiv_iff.mp emp_sep).symm
  | insert a s ha ih =>
    rw [bigSep_insert ha, ih]
    have e : bigSep t (fun b => bigSep (insert a s) (fun a => Φ a b)) = bigSep t (fun b => iprop(Φ a b ∗ bigSep s (fun a => Φ a b))) :=
      bigSep_congr fun b _ => bigSep_insert ha
    rw [e, bigSep_sep']
    rfl

/-- The send cells' and the receive cells' places among the sixty-two transfer cells. -/
def jSend (o : ℕ) : Fin 62 := ⟨o % 62, Nat.mod_lt _ (by decide)⟩
/-- The place of receive semaphore `o` among the call's own semaphores. -/
def jRecv (o : ℕ) : Fin 62 := ⟨(31 + o) % 62, Nat.mod_lt _ (by decide)⟩

/-- Send semaphore `o` follows the barrier in the list of cells. -/
theorem jSend_succ {o : ℕ} (h : o < 31) : (jSend o).succ = kSend o := by
  refine Fin.ext ?_; show o % 62 + 1 = (1 + o) % 63; omega
/-- Receive semaphore `o` follows the send semaphores in the list of cells. -/
theorem jRecv_succ {o : ℕ} (h : o < 31) : (jRecv o).succ = kRecv o := by
  refine Fin.ext ?_; show (31 + o) % 62 + 1 = (32 + o) % 63; omega

omit [FloatOps F] in
/-- A family over the transfer cells is its send part and its receive part. -/
theorem halves (Φ : Fin 62 → sProp 𝕄) :
    bigSep Finset.univ Φ = iprop((bigSep (Finset.range 31) fun o => Φ (jSend o)) ∗ bigSep (Finset.range 31) fun o => Φ (jRecv o)) := by
  have hu : (Finset.univ : Finset (Fin 62)) = (Finset.range 31).image jSend ∪ (Finset.range 31).image jRecv := by decide
  have hd : Disjoint ((Finset.range 31).image jSend) ((Finset.range 31).image jRecv) := by decide
  rw [hu, bigSep_union hd, bigSep_image_of_injOn (f := jSend), bigSep_image_of_injOn (f := jRecv)]
  · rfl
  · intro o h o' h' e
    have := Finset.mem_range.mp h; have := Finset.mem_range.mp h'
    have := congrArg Fin.val e
    change (31 + o) % 62 = (31 + o') % 62 at this
    omega
  · intro o h o' h' e
    have := Finset.mem_range.mp h; have := Finset.mem_range.mp h'
    have := congrArg Fin.val e
    change o % 62 = o' % 62 at this
    omega

omit [FloatOps F] in
/-- A family over all cells of a device is the barrier's member and the transfer cells'. -/
theorem bar_first (Φ : Fin 63 → sProp 𝕄) : bigSep Finset.univ Φ = iprop(Φ 0 ∗ bigSep Finset.univ fun j : Fin 62 => Φ j.succ) := by
  rw [Fin.univ_succ, Finset.cons_eq_insert, bigSep_insert (by simp), bigSep_map]; rfl

omit [FloatOps F] in
/-- A family of assertions on a device's transfer cells, by offsets. -/
theorem on_cells (Φ : GSem nD τ sig → sProp 𝕄) (c : Dev nD) :
    (bigSep Finset.univ fun j : Fin 62 => Φ (kcell (c, j.succ)))
      = iprop((bigSep (Finset.range 31) fun o => Φ (sendCell c o)) ∗ bigSep (Finset.range 31) fun o => Φ (recvCell c o)) := by
  have h1 : (bigSep (Finset.range 31) fun o => Φ (kcell (c, (jSend o).succ))) = bigSep (Finset.range 31) fun o => Φ (sendCell c o) :=
    bigSep_congr fun o h => by rw [jSend_succ (Finset.mem_range.mp h), kcell_send c (Finset.mem_range.mp h)]
  have h2 : (bigSep (Finset.range 31) fun o => Φ (kcell (c, (jRecv o).succ))) = bigSep (Finset.range 31) fun o => Φ (recvCell c o) :=
    bigSep_congr fun o h => by rw [jRecv_succ (Finset.mem_range.mp h), kcell_recv c (Finset.mem_range.mp h)]
  rw [halves, h1, h2]

/-! ## The cells and tokens as launched -/

/-- The kernel's own semaphores: the sends' and the receives'. -/
abbrev osem : Fin 62 → SemLoc sig := fun j => csem j.succ

/-- The 63 semaphores of a device are different. -/
theorem csem_injective : Function.Injective csem := by
  intro k k' h
  have hk := k.isLt
  have hk' := k'.isLt
  unfold csem at h
  refine Fin.ext ?_
  by_cases h0 : k.val = 0 <;> by_cases h1 : k'.val = 0
  · omega
  · rw [if_pos h0, if_neg h1] at h; exact absurd h (by simp)
  · rw [if_neg h0, if_pos h1] at h; exact absurd h (by simp)
  · rw [if_neg h0, if_neg h1] at h
    have h' := congrArg Fin.val (SemLoc.dma.inj h)
    change (3 + k.val) % 66 = (3 + k'.val) % 66 at h'
    omega

/-- The call's own semaphores are the 62 from number 4 on. -/
theorem osem_val (j : Fin 62) : osem j = .dma ⟨4 + j.val, by have := j.isLt; show _ < 66; omega⟩ := by
  have hj := j.isLt
  show csem j.succ = _
  unfold csem
  rw [if_neg (by simp)]
  refine congrArg SemLoc.dma (Fin.ext ?_)
  show (3 + (j.val + 1)) % 66 = 4 + j.val
  omega

/-- The call's own semaphores are scoped and different. -/
theorem ownSemFacts : Pipeline.OwnSemFacts cfg0.spec osem where
  isScoped := by decide
  inj := fun j j' h => Fin.succ_injective _ (csem_injective h)
  disj := by decide

/-- The cells of all devices are different. -/
theorem kcell_injective : Function.Injective kcell := by
  rintro ⟨c, k⟩ ⟨c', k'⟩ h
  have h1 : c = c' := congrArg (fun g : GSem nD τ sig => g.1.1) h
  have h2 : k = k' := csem_injective (congrArg Prod.snd h)
  subst h1; subst h2; rfl
/-- Every cell of the exchange. -/
def ringCells : Finset (GSem nD τ sig) := Finset.univ.map ⟨kcell, kcell_injective⟩

/-- The duty tokens as minted: at each barrier one for every device, at each transfer cell one. -/
abbrev tokOf (x : Dev nD × (Dev nD ⊕ Fin 62)) : GSem nD τ sig × ℕ × Dev nD := match x.2 with
  | .inl p => (barCell x.1, 0, p)
  | .inr j => (kcell (x.1, j.succ), 0, d₀)
/-- The duty tokens are different. -/
theorem tokOf_injective : Function.Injective tokOf := by
  rintro ⟨c, x⟩ ⟨c', x'⟩ h
  cases x with
  | inl p => cases x' with
    | inl p' =>
      have h1 : c = c' := congrArg (fun y : GSem nD τ sig × ℕ × Dev nD => y.1.1.1) h
      have h2 : p = p' := congrArg (fun y : GSem nD τ sig × ℕ × Dev nD => y.2.2) h
      subst h1; subst h2; rfl
    | inr j' =>
      have h1 : kcell (c, 0) = kcell (c', j'.succ) := congrArg Prod.fst h
      exact absurd (congrArg Prod.snd (kcell_injective h1)).symm (Fin.succ_ne_zero _)
  | inr j => cases x' with
    | inl p' =>
      have h1 : kcell (c, j.succ) = kcell (c', 0) := congrArg Prod.fst h
      exact absurd (congrArg Prod.snd (kcell_injective h1)) (Fin.succ_ne_zero _)
    | inr j' =>
      have h1 := kcell_injective (congrArg Prod.fst h : kcell (c, j.succ) = kcell (c', j'.succ))
      have h2 : c = c' := congrArg Prod.fst h1
      have h3 : j = j' := Fin.succ_injective _ (congrArg Prod.snd h1)
      subst h2; subst h3; rfl
/-- Every duty token of the exchange. -/
def ringToks : Finset (GSem nD τ sig × ℕ × Dev nD) := Finset.univ.map ⟨tokOf, tokOf_injective⟩

/-- The ghost state at the launch: the staging cells and the exchange, both in round 0. -/
def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun p : Dev nD => dutyTok ER (barCell c) 0 p) ∗ bigSep Finset.univ fun j : Fin 62 => dutyTok ER (kcell (c, j.succ)) 0 d₀)

/-- The tokens device `c` pays with. -/
def payToks (c : Dev nD) : sProp 𝕄 :=
  iprop((bigSep (Finset.range 31) fun o => dutyTok ER (barCell (peer c o)) 0 c) ∗ sendToks (F := F) c)

/-- What the launch element deals device `c`. -/
def G (c : Dev nD) : sProp 𝕄 :=
  iprop((bigSep Finset.univ fun k : Fin 63 => roundState ER (ringRd m) (kcell (c, k)) 0)
    ∗ (bigSep Finset.univ fun k : Fin 63 => iprop(atPos ER (kcell (c, k)) 0 ∅ 0 ∗ reached ER (kcell (c, k)) 0)) ∗ toks (F := F) c)

/-- What stays with device `c`: its positions, and the tokens it pays with. -/
def linear (c : Dev nD) : sProp 𝕄 :=
  iprop((bigSep Finset.univ fun k : Fin 63 => atPos ER (kcell (c, k)) 0 ∅ 0) ∗ payToks (F := F) c)

/-- The exchange's ghost state that device `c` starts from. -/
def ghost (K : Dev nD × Fin 63 → ℕ) (c : Dev nD) : sProp 𝕄 := iprop(records m K ∗ linear (F := F) c)
/-- What device `c` enters with, whatever names the cells got. -/
def G' (c : Dev nD) : sProp 𝕄 := iprop(∃ K, ghost m K c)

/-- The exchange's ghost state, shared out among the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 63 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_univ_sum]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
/-- The barrier semaphore is the one semaphore outside the kernel's scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The call's own semaphores at zero are the send and the receive cells at zero. -/
theorem ownSems0_eq (c : Dev nD) : (Pipeline.ownSems0 (Ix := Unit) (Name := ℕ) (U := UU) (Lvl := ℕ) (Val := Elt F) (τ := τ) osem c : sProp 𝕄)
    = iprop((bigSep (Finset.range 31) fun o => semVal (sendCell c o) 0) ∗ bigSep (Finset.range 31) fun o => semVal (recvCell c o) 0) :=
  on_cells (fun g => semVal g 0) c

omit [FloatOps F] in
/-- A device's semaphores at zero are its 63 cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 63 => semVal (kcell (c, k)) 0 : sProp 𝕄) := by
  rw [unscopedSems0_eq, bar_first]
  unfold Pipeline.ownSems0
  iintro ⟨HO, HB⟩
  isplitl [HB]; · iexact HB
  iexact HO

/-! ## Opening the cells, and the tokens to their payers -/

/-- Each device turns its semaphores at zero and its ghost state into cells with their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 63 => semVal (kcell (c, k)) 0) ∗ bigSep Finset.univ fun k : Fin 63 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The barrier tokens to the devices they name. -/
theorem bar_toks : (bigSep Finset.univ fun c : Dev nD => bigSep Finset.univ fun p : Dev nD => (dutyTok ER (barCell c) 0 p : sProp 𝕄))
    ⊢ bigSep Finset.univ fun c : Dev nD => bigSep (Finset.range 31) fun o => dutyTok ER (barCell (peer c o)) 0 c := by
  rw [bigSep_univ_comm]
  refine bigSep_mono fun p _ => ?_
  rw [bigSep_univ_at _ p, others_peer]
  exact sep_and.trans and_elimR

/-- The receive cells' tokens to the devices that send there. -/
theorem recv_toks : (bigSep Finset.univ fun c : Dev nD => bigSep (Finset.range 31) fun o => (dutyTok ER (recvCell c o) 0 d₀ : sProp 𝕄))
    = bigSep Finset.univ fun c : Dev nD => bigSep (Finset.range 31) fun o => dutyTok ER (recvCell (peer c o) o) 0 d₀ := by
  rw [swap]
  refine Eq.trans ?_ (swap _ _ _).symm
  exact bigSep_congr fun o h => bigSep_univ_equiv (shift o (Finset.mem_range.mp h)) (fun c : Dev nD => (dutyTok ER (recvCell c o) 0 d₀ : sProp 𝕄))

/-- The tokens of the cells, handed to the devices that pay them. -/
theorem toks_around : (bigSep Finset.univ fun c : Dev nD => (toks c : sProp 𝕄)) ⊢ bigSep Finset.univ fun c : Dev nD => payToks c := by
  have e : (fun c : Dev nD => (toks c : sProp 𝕄)) = fun c => iprop((bigSep Finset.univ fun p : Dev nD => dutyTok ER (barCell c) 0 p)
      ∗ (bigSep (Finset.range 31) fun o => dutyTok ER (sendCell c o) 0 d₀) ∗ bigSep (Finset.range 31) fun o => dutyTok ER (recvCell c o) 0 d₀) :=
    funext fun c => by unfold toks; rw [on_cells fun g => dutyTok ER g 0 d₀]
  rw [e]
  unfold payToks sendToks
  simp only [bigSep_sep']
  rw [recv_toks]
  iintro ⟨H1, H2, H3⟩
  isplitl [H1]; · iapply bar_toks; iexact H1
  isplitl [H2] <;> iassumption

/-- The records and a device's own part are what it enters with. -/
theorem ghost_intro (K : Dev nD × Fin 63 → ℕ) (c : Dev nD) : iprop(records m K ∗ linear c) ⊢ G' m c := by
  unfold G' ghost
  iintro H
  iexists K
  iexact H

/-- The cells of all devices, collected and handed out again, so that each device knows all of them. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 63 => iprop(∃ κ : ℕ, cellInv ER (ringRd m) κ (kcell ck))),
    bigSep_congr (s := Finset.univ) (fun (c : Dev nD) _ => bigSep_sep' Finset.univ (fun k : Fin 63 => (atPos ER (kcell (c, k)) 0 ∅ 0 : sProp 𝕄)) (fun k => reached ER (kcell (c, k)) 0)),
    bigSep_sep', ← bigSep_univ_prod (fun ck : Dev nD × Fin 63 => (reached ER (kcell ck) 0 : sProp 𝕄))]
  iintro ⟨HI, ⟨Hat, #HR⟩, Htok⟩
  ihave HK := (BI.bigSep_exists_pi Finset.univ (fun (ck : Dev nD × Fin 63) (κ : ℕ) => (cellInv ER (ringRd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · unfold linear
    rw [bigSep_sep']
    isplitl [Hat]; · iexact Hat
    iexact Htk

/-- The launch's one step over every device's semaphores and ghost state. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits booked at launch -/

/-- A receive cell is no barrier cell. -/
theorem recv_ne_bar (c d : Dev nD) (o : ℕ) : recvCell c o ≠ barCell d := fun h => absurd (congrArg Prod.snd h) (by simp)

/-- Two receive cells are the same only if device and offset are. -/
theorem recv_eq_iff {c d : Dev nD} {o o' : ℕ} (h : o < 31) (h' : o' < 31) : recvCell c o = recvCell d o' ↔ c = d ∧ o = o' := by
  constructor
  · intro e
    refine ⟨congrArg (fun g : GSem nD τ sig => g.1.1) e, ?_⟩
    have e' := congrArg Fin.val (SemLoc.dma.inj (congrArg Prod.snd e))
    rw [recvS_val h, recvS_val h'] at e'
    omega
  · rintro ⟨rfl, rfl⟩; rfl

/-- At the start a receive cell is owed one block, by its sender alone. -/
theorem owed_recv (d c : Dev nD) {o : ℕ} (h : o < 31) : O₀ d (recvCell c o) () = if d = sender c o then N else 0 := by
  unfold O₀ owedBar owedRecv
  rw [Pi.add_apply, Finsupp.add_apply, sum_tally, sum_tally,
    Finset.sum_eq_zero (s := Finset.Ico 0 31) (f := fun x => tallyAt (barCell (peer d x)) () 1 (recvCell c o) ()) (fun x _ => by
      rw [tallyAt_apply, if_neg fun h => recv_ne_bar _ _ _ h.1]), Nat.add_zero,
    Finset.sum_eq_single_of_mem o (Finset.mem_Ico.mpr ⟨Nat.zero_le _, h⟩) (fun o' h' hne => by
      rw [tallyAt_apply, if_neg fun e => hne ((recv_eq_iff h (Finset.mem_Ico.mp h').2).mp e.1).2.symm]), tallyAt_apply]
  by_cases hd : d = sender c o
  · subst hd; rw [peer_sender c h, if_pos ⟨rfl, rfl⟩, if_pos rfl]
  · rw [if_neg hd, if_neg]
    intro e
    apply hd
    rw [((recv_eq_iff h h).mp e.1).1, sender_peer d h]

/-- At the start a barrier is owed one unit by each other device. -/
theorem owed_bar (d c : Dev nD) : O₀ d (barCell c) () = ∑ o ∈ Finset.Ico 0 31, if d = sender c o then 1 else 0 := by
  unfold O₀ owedBar owedRecv
  rw [Pi.add_apply, Finsupp.add_apply, sum_tally, sum_tally,
    Finset.sum_eq_zero (s := Finset.Ico 0 31) (f := fun x => tallyAt (recvCell (peer d x) x) () N (barCell c) ()) (fun x _ => by
      rw [tallyAt_apply, if_neg fun h => recv_ne_bar _ _ _ h.1.symm]), Nat.zero_add]
  refine Finset.sum_congr rfl fun o ho => ?_
  have h := (Finset.mem_Ico.mp ho).2
  rw [tallyAt_apply]
  by_cases hd : d = sender c o
  · subst hd; rw [peer_sender c h, if_pos ⟨rfl, rfl⟩, if_pos rfl]
  · rw [if_neg hd, if_neg]
    intro e
    apply hd
    rw [show c = peer d o from congrArg (fun g : GSem nD τ sig => g.1.1) e.1, sender_peer d h]

/-- A barrier's credit at the launch is 31 units. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun o _ => Finset.sum_ite_eq' Finset.univ (sender c o) fun _ => 1]
  simp

/-- A receive cell's credit at the launch is one block. -/
theorem launch_recv (c : Dev nD) {o : ℕ} (h : o < 31) :
    tallyOn (recvCell c o) (launchCredit (Pipeline.owing O₀) 0 (recvCell c o)) = (tallyAt (recvCell c o) () N : CellTallies nD τ sig Unit) := by
  unfold tallyAt; refine congrArg _ (Finsupp.ext fun u => ?_); cases u
  rw [Pipeline.launchCredit_owing, Finsupp.single_eq_same, Finset.sum_congr rfl fun d _ => owed_recv d c h,
    Finset.sum_ite_eq' Finset.univ (sender c o) fun _ => N, if_pos (Finset.mem_univ _)]

/-- The credits device `c` starts with: one unit from every other device at its barrier, one transfer at each of its
    receive cells. -/
theorem creds (c : Dev nD) :
    (Pipeline.launchCred O₀ c : sProp 𝕄) ⊢ iprop(cred (tallyAt (barCell c) () 31) ∗ bigSep (Finset.range 31) fun o => cred (tallyAt (recvCell c o) () N)) := by
  unfold Pipeline.launchCred
  rw [bigSep_univ_at _ (SemLoc.reg barS), launch_bar]
  refine sep_mono_right ?_
  have hsub : ((Finset.range 31).image fun o => (SemLoc.dma (recvS o) : SemLoc sig)) ⊆ Finset.univ.erase (SemLoc.reg barS) := by
    intro sm h
    obtain ⟨o, -, rfl⟩ := Finset.mem_image.mp h
    exact Finset.mem_erase.mpr ⟨fun e => (by cases e), Finset.mem_univ _⟩
  have e : (bigSep ((Finset.range 31).image fun o => (SemLoc.dma (recvS o) : SemLoc sig)) fun sm =>
        (cred (tallyOn ((c : Thread nD τ), sm) (launchCredit (Pipeline.owing O₀) 0 ((c : Thread nD τ), sm))) : sProp 𝕄))
      = bigSep (Finset.range 31) fun o => cred (tallyAt (recvCell c o) () N) := by
    rw [bigSep_image_of_injOn]
    · exact bigSep_congr fun o h => by rw [launch_recv c (Finset.mem_range.mp h)]
    · intro o h o' h' e
      have e' := congrArg Fin.val (SemLoc.dma.inj e)
      rw [recvS_val (Finset.mem_range.mp h), recvS_val (Finset.mem_range.mp h')] at e'
      omega
  rw [← e]
  exact bigSep_subset hsub

end Cert.Moe

end
-- ==== Proof.Launch.lean ====
/-
# The run of the whole program

The pipeline's proof data, the body's obligation read off `run_body`, and the run of `@main` on all devices, for any
float values.
-/
module

public import proofs.«01_k».proof.Proof.Deal
public import Idealize.ShloMosaic.Lib.Pipeline.CollectiveSegs

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What device `c`'s body starts from. -/
def start (c : Dev nD) : sProp 𝕄 :=
  iprop((∃ K, ghost m K c) ∗ cred (tallyAt (barCell c) () 31) ∗ (bigSep (Finset.range 31) fun o => cred (tallyAt (recvCell c o) () N)) ∗ levAts L lv)

/-- Before the point: what the device enters with, and the landing buffer at any contents. -/
def Φ₀ (c : Dev nD) : sProp 𝕄 := iprop(start m c ∗ ∃ f, whole c cc0_scratch0 f)
/-- After the point: the landing buffer holds the gathered array, and every semaphore of the exchange is at zero, closed. -/
def Φ₁ (c : Dev nD) : sProp 𝕄 :=
  iprop(whole c cc0_scratch0 (gath m) ∗ (bigSep (Finset.range 31) fun o => semVal (sendCell c o) 0)
    ∗ (bigSep (Finset.range 31) fun o => semVal (recvCell c o) 0) ∗ semVal (barCell c) 0)

/-- The proof data of the call: every window starts at its array, and ends at the staged argument or at the result. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => estg m c
    | ⟨2, _⟩ => wstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- A whole buffer owned at a value, written out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ whole c b f) := by
  unfold owns; simp only [Memref.view_whole, View.read_whole, View.set_whole]

/-! ## The body's obligation -/

/-- What the exchange starts from, from what the device enters with. -/
theorem ring_in (K : Dev nD × Fin 63 → ℕ) (c : Dev nD) (W : Finset (SemLoc sig × Unit)) (f : (cc0_scratch0 : Ref sig .tc).ty.Contents (Elt F)) :
    iprop(ghost m K c ∗ cred (tallyAt (barCell c) () 31) ∗ (bigSep (Finset.range 31) fun o => cred (tallyAt (recvCell c o) () N)) ∗ levAts L lv
      ∗ owes (c : Thread nD τ) (O₀ c) W ∗ whole c cc0_scratch0 f) ⊢ ringIn m K c := by
  have hf : (bigSep (Finset.range 31) fun o => (blkPts c (peer c o) f : sProp 𝕄)) ⊢ bigSep (Finset.range 31) fun o => iprop(∃ f, blkPts c (peer c o) f) :=
    bigSep_mono fun o _ => show blkPts c (peer c o) f ⊢ iprop(∃ f, blkPts c (peer c o) f) from by iintro H; iexists f; iexact H
  unfold ringIn SigSt preBar preRecv preSend ghost linear payToks
  rw [← Finset.range_eq_Ico, bigSep_sep', bigSep_sep', blocks_whole, bigSep_univ_at _ c, others_peer, bar_first, on_cells fun g => atPos ER g 0 ∅ 0]
  iintro ⟨⟨#HR, ⟨Hab, Has, Hav⟩, Htb, Hts⟩, Hc1, Hc2, Hl, HO, Hb0, Hbs⟩
  isplitl [HO Htb Hbs]
  · isplitr; · iexact HR
    isplitl [HO]; · iexists W; iexact HO
    isplitl [Htb]; · iexact Htb
    iapply hf; iexact Hbs
  isplitl [Hb0 Hc1 Hab Hl Hts]
  · isplitl [Hb0]; · iexists f; iexact Hb0
    isplitl [Hc1]; · iexact Hc1
    isplitl [Hab]; · iexact Hab
    isplitl [Hl]; · iexact Hl
    iexact Hts
  isplitl [Hc2 Hav]
  · isplitl [Hc2] <;> iassumption
  iexact Has

/-- What the body starts from. -/
def bodyPre (c : Dev nD) : sProp 𝕄 :=
  iprop(Φ₀ m c ∗ (dats m 0 c).owesAt () t0_0.castSucc
    ∗ (∃ d, ∃ f, ⌜f = (dats m 0 c).before (0 : Fin 4) t0_0 d⌝ ∗ whole c cc0_stg0_0 f)
    ∗ (∃ d, ∃ f, ⌜f = (dats m 0 c).before (1 : Fin 4) t0_0 d⌝ ∗ whole c cc0_stg1_0 f)
    ∗ (∃ d, ∃ f, ⌜f = (dats m 0 c).before (2 : Fin 4) t0_0 d⌝ ∗ whole c cc0_stg2_0 f)
    ∗ (∃ d, ∃ f, ⌜f = (dats m 0 c).before (3 : Fin 4) t0_0 d⌝ ∗ whole c cc0_stg3_0 f))

/-- What the body leaves. -/
def bodyPost (c : Dev nD) : sProp 𝕄 :=
  iprop(Φ₁ m c ∗ (dats m 0 c).owesAt () t0_0.succ
    ∗ (∃ f, ⌜f = xstg m c⌝ ∗ whole c cc0_stg0_0 f) ∗ (∃ f, ⌜f = estg m c⌝ ∗ whole c cc0_stg1_0 f)
    ∗ (∃ f, ⌜f = wstg m c⌝ ∗ whole c cc0_stg2_0 f) ∗ (∃ f, ⌜f = outAt m c⌝ ∗ whole c cc0_stg3_0 f))

/-- The body finds the tokens staged. -/
theorem before_x (c : Dev nD) (d) : (dats m 0 c).before (0 : Fin 4) t0_0 d = xstg m c := by unfold Dat.before; rw [if_pos (fetch0_0 _)]; rfl
/-- The body finds the expert indices staged. -/
theorem before_e (c : Dev nD) (d) : (dats m 0 c).before (1 : Fin 4) t0_0 d = estg m c := by unfold Dat.before; rw [if_pos (fetch0_1 _)]; rfl
/-- The body finds the device's matrices staged. -/
theorem before_w (c : Dev nD) (d) : (dats m 0 c).before (2 : Fin 4) t0_0 d = wstg m c := by unfold Dat.before; rw [if_pos (fetch0_2 _)]; rfl

/-- The body runs from the one to the other. -/
theorem body_run (c : Dev nD) : bodyPre m c ⊢ wp frame (wpE (defs₀ (F := F)) 𝒱₀ (c : Thread nD τ) none) Set.univ (onBufs (cc0_body (F := F))) (fun _ => bodyPost m c) := by
  unfold bodyPre Φ₀ start
  iintro ⟨⟨⟨⟨%K, Hg⟩, Hc1, Hc2, Hl⟩, ⟨%f, Hr⟩⟩, HO, ⟨%dx, %x, %hx, Hx⟩, ⟨%de, %e, %he, He⟩, ⟨%dw, %w, %hw, Hw⟩, ⟨%dO, %o, -, Ho⟩⟩
  rw [before_x] at hx
  rw [before_e] at he
  rw [before_w] at hw
  subst hx he hw
  unfold Dat.owesAt Pipeline.owesWithin
  icases HO with ⟨%W, -, HO⟩
  iapply (run_body m K c o) $$ [Hg Hc1 Hc2 Hl Hr HO Hx He Hw Ho]
  · isplitl [Hg Hc1 Hc2 Hl Hr HO]
    · iapply (ring_in m K c W f)
      isplitl [Hg]; · iexact Hg
      isplitl [Hc1]; · iexact Hc1
      isplitl [Hc2]; · iexact Hc2
      isplitl [Hl]; · iexact Hl
      isplitl [HO]; · iexact HO
      iexact Hr
    isplitl [Hx]; · iexact Hx
    isplitl [He]; · iexact He
    isplitl [Hw] <;> iassumption
  iintro ⟨%W', HO⟩ Hr Hz2 Hz1 Hz Hx He Hw Ho
  unfold bodyPost Φ₁ Dat.owesAt Pipeline.owesWithin
  rw [show (dats m 0 c).owed t0_0.succ = 0 from rfl]
  isplitl [Hr Hz1 Hz2 Hz]
  · isplitl [Hr]; · iexact Hr
    isplitl [Hz1]; · iexact Hz1
    isplitl [Hz2] <;> iassumption
  isplitl [HO]
  · iexists W'
    isplitr; · ipureintro; exact fun _ _ => Or.inl trivial
    iexact HO
  isplitl [Hx]
  · iexists _; isplitr; · (ipureintro; rfl)
    iexact Hx
  isplitl [He]
  · iexists _; isplitr; · (ipureintro; rfl)
    iexact He
  isplitl [Hw]
  · iexists _; isplitr; · (ipureintro; rfl)
    iexact Hw
  iexists _; isplitr; · (ipureintro; rfl)
  iexact Ho

/-- The pipeline's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_run m c

/-! ## The side conditions of the launch -/

/-- Every window is held in full. -/
theorem share_eq (c : Dev nD) (w : Fin cfg0.W) : (dats m 0 c).share w = fullShare := by unfold Dat.share; split <;> rfl

/-- The argument that no window stages keeps its contents. -/
abbrev rest (c : Dev nD) : sProp 𝕄 := whole c main_arg1 (m ((c : Thread nD τ).loc main_arg1))

/-- What is left of the launch is what the device enters with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ rest m c) := by
  rw [Pipeline.unscopedRestP_none]
  iintro ⟨Hrest, Hlev, Hcr, -, HG⟩
  ihave Hc := (creds (F := F) c) $$ Hcr
  icases Hc with ⟨H1, HN⟩
  imodintro
  unfold start G'
  isplitr [Hrest]
  · isplitl [HG]; · iexact HG
    isplitl [H1]; · iexact H1
    isplitl [HN]; · iexact HN
    iexact Hlev
  · iapply (Entails.of_eq (unscopedRest0_eq c fun b => m ((c : Thread nD τ).loc b)))
    iexact Hrest

/-- The entry, with the call's scratch, is the state before the point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

/-- The state after the point gives the scratch and the semaphores back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨Hr, Hz1, Hz2, Hz⟩
  isplitl [Hz]; · iexact Hz
  isplitl [Hz1 Hz2]
  · isplitl [Hz1] <;> iassumption
  iexists (gath m); iexact Hr

/-- The staging's waits are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

omit [FloatOps F] in
/-- A buffer held whole reads what it is held at. -/
theorem whole_read (c : Dev nD) (b : Ref sig .tc) (f : Buf (Elt F) ((c : Thread nD τ).loc b)) (s' : Phys nD τ sig (Elt F)) :
    iprop(whole c b f ∗ SI s') ⊢ (<pers> ⌜s'.mem.mem ((c : Thread nD τ).loc b) = f⌝ : sProp 𝕄) :=
  ((sep_comm.1.trans SI_pointsTo_agree).trans (BI.pure_mono fun h => funext fun i => h i (Finset.mem_univ i))).trans Laws.persistently_pure.2

/-! ## The run -/

/-- What a device's final memory holds: each window's array after its write-backs, and the remaining argument unchanged. -/
def ends (c : Dev nD) (s : MemSt nD τ sig (Elt F)) : Prop :=
  (∀ w : Fin cfg0.W, s.mem ((cfg0.win w).arr.view.loc (c : Thread nD τ)) = (dats m 0 c).arrAt w cfg0.N)
    ∧ s.mem ((c : Thread nD τ).loc main_arg1) = m ((c : Thread nD τ).loc main_arg1)

/-- From any memory with zero counters, for any float values: every weakly fair execution of `@main` on the thirty-two
    devices terminates, and every final state has each device's arrays at `ends` and every semaphore counter at zero. -/
theorem run_main : θ_run defs (onTc (τ := τ) (main (F := F))) (start₀ m ρ) (fun r => (∀ c : Dev nD, ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := rest m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hz, HSI⟩
      ihave %h := (whole_read c main_arg1 _ s') $$ [Hz HSI]
      · isplitl [Hz] <;> iassumption
      imod (Pipeline.unscopedSems0_read (X := unscopedSems0 c) (c := c) fupd_intro s') $$ [Hu HSI] with ⟨%h', HSI⟩
      · isplitl [Hu] <;> iassumption
      imodintro
      isplitr; · ipureintro; exact ⟨h', h⟩
      iexact HSI)
    (hQ := fun _ h hs => ⟨fun c => ⟨(h c).1, (h c).2.2.2⟩, sem_eq_zero hs fun c => (h c).2.2.1⟩)

end Cert.Moe

end
-- ==== Proof.Frames.lean ====
/-
# The frames

The run leaves every argument array as launched and every semaphore at zero; the two programs have the same text, so
`run_main` at the machine's floats is the original program's run and at exact arithmetic the idealization's.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 16384

noncomputable section

namespace Cert.Moe

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- At the end of a run every argument of a device is as launched. -/
theorem args_unchanged (c : Dev nD) (s : MemSt nD τ sig (Elt F)) (h : ends m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3) :=
  ⟨(h.1 0).trans ((dats m 0 c).arrAt_in 0 rfl _), h.2, (h.1 1).trans ((dats m 0 c).arrAt_in 1 rfl _),
    (h.1 2).trans ((dats m 0 c).arrAt_in 2 rfl _)⟩

/-- The run of `@main` leaves the arguments and the semaphores as they were. -/
theorem run_frame : θ_run defs (onTc (τ := τ) (main (F := F))) (start₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => args_unchanged m c r.2 (h.1 c), h.2⟩) (run_main m ρ)

/-- The frame of the idealization. -/
theorem frame_ideal : Cert.quiescent_KernelIdeal := fun m ρ _ => run_frame m ρ

/-- The kernel and its idealization have one table of pipeline bodies. -/
theorem bodies_eq : Cert.Kernel.defs₀ (F := Bits) = Cert.KernelIdeal.defs₀ (F := Bits) :=
  congrArg Defs.onTc (funext fun ℓ => match ℓ with
    | 0 => rfl
    | ⟨_ + 1, h⟩ => absurd h (Nat.not_lt.2 (Nat.le_add_left _ _)))

/-- The kernel and its idealization have one body table. -/
theorem defs_eq : Cert.Kernel.defs (F := Bits) = Cert.KernelIdeal.defs (F := Bits) :=
  congrArg (Pipeline.defs (Cert.KernelIdeal.pcfgs (F := Bits))) bodies_eq

/-- The kernel on machine words ends, on every device, with the arguments as they were and every semaphore at zero. -/
theorem frame_kernel : Cert.quiescent_Kernel := fun m ρ _ => by
  rw [defs_eq]
  exact run_frame (F := Bits) m ρ

/-- The frame of the reference: a host program, which has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

end Cert.Moe

end
-- ==== Proof.Arrays.lean ====
/-
# The arrays a device stages and writes back

The pipeline has one point and its windows are whole arrays: what the body reads are the arguments as launched, and the
result array ends as what the body stored.
-/
module

public import proofs.«01_k».proof.Proof.Launch
public import Idealize.ShloMosaic.Lib.Pipeline.ValueKit
public import Idealize.ShloMosaic.Lib.Pointwise

@[expose] public section

set_option maxRecDepth 16384

noncomputable section

namespace Cert.Moe

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- The staged tokens are the first argument. -/
theorem xstg_eq : xstg m c = m ((c : Thread nD τ).loc main_arg0) := by
  unfold xstg
  refine funext fun j => congrArg (m ((c : Thread nD τ).loc main_arg0)) (funext fun a => Fin.ext ?_)
  exact (ValueKit.view_emb_slice_whole_unit_val _ _ _ _ _ _).trans (by fin_cases a <;> exact Nat.zero_add _)

/-- The staged expert indices are the third argument. -/
theorem estg_eq : estg m c = m ((c : Thread nD τ).loc main_arg2) := by
  unfold estg
  refine funext fun j => congrArg (m ((c : Thread nD τ).loc main_arg2)) (funext fun a => Fin.ext ?_)
  exact (ValueKit.view_emb_slice_whole_unit_val _ _ _ _ _ _).trans (by fin_cases a <;> exact Nat.zero_add _)

/-- The staged weights are the fourth argument. -/
theorem wstg_eq : wstg m c = m ((c : Thread nD τ).loc main_arg3) := by
  unfold wstg
  refine funext fun j => congrArg (m ((c : Thread nD τ).loc main_arg3)) (funext fun a => Fin.ext ?_)
  exact (ValueKit.view_emb_slice_whole_unit_val _ _ _ _ _ _).trans (by fin_cases a <;> exact Nat.zero_add _)

/-- The weights of the device's first expert. -/
theorem w0_read (f : (cc0_stg2_0 : Ref sig .tc).ty.Contents (Elt F)) (d : Fin 128) (h : Fin 256) :
    wM.view.readAt (Elt F) w0R.toLoadRect f (ix3 0 d h) = f (ix3 (n0 := 2) (n1 := 128) (n2 := 256) 0 d h) := by
  refine congrArg f (funext fun a => Fin.ext ?_)
  refine (ValueKit.rect_emb_unit_val _ _ _ _ _).trans ?_
  fin_cases a
  · rfl
  · exact Nat.zero_add _
  · exact Nat.zero_add _

/-- The weights of the device's second expert. -/
theorem w1_read (f : (cc0_stg2_0 : Ref sig .tc).ty.Contents (Elt F)) (d : Fin 128) (h : Fin 256) :
    wM.view.readAt (Elt F) w1R.toLoadRect f (ix3 0 d h) = f (ix3 (n0 := 2) (n1 := 128) (n2 := 256) 1 d h) := by
  refine congrArg f (funext fun a => Fin.ext ?_)
  refine (ValueKit.rect_emb_unit_val _ _ _ _ _).trans ?_
  fin_cases a
  · rfl
  · exact Nat.zero_add _
  · exact Nat.zero_add _

/-- The result array ends as the body's result. -/
theorem final_out : (dats m 0 c).arrAt 3 cfg0.N = outAt m c := by
  refine (dats m 0 c).arrAt_eq_of_after_last 3 t0_0 (by decide +kernel) _ fun j => ?_
  rfl

end Cert.Moe

end
-- ==== Proof.Tally.lean ====
/-
# Counting the tokens of an expert

`upTo e i k` is how many of the tokens `0 … i` chose `k`: the place of token `i` in its expert's queue, counted from one.
Two tokens of one expert have different places, and the place of a token is one more than the number of its
predecessors. Over the extended reals a sum of products of zeros and ones is such a number.
-/
module

public import Mathlib.Data.EReal.Operations
public import Mathlib.Algebra.BigOperators.Fin
public import Mathlib.Data.Fintype.Card
public import Mathlib.Algebra.BigOperators.Ring.Finset

@[expose] public section

noncomputable section

namespace Cert.Moe

open scoped BigOperators

variable {n : Nat} {α : Type} [DecidableEq α] (e : Fin n → α)

/-- How many of the tokens up to and including `i` chose `k`. -/
def upTo (i : Fin n) (k : α) : Nat := (Finset.univ.filter fun j => j ≤ i ∧ e j = k).card

/-- A token stands behind itself in its expert's queue: its place is at least one. -/
theorem one_le_upTo {i : Fin n} {k : α} (h : e i = k) : 1 ≤ upTo e i k :=
  Finset.card_pos.2 ⟨i, by simp [h]⟩

/-- Of two tokens of one expert the later has the greater place. -/
theorem upTo_lt {i j : Fin n} {k : α} (hj : e j = k) (hij : i < j) : upTo e i k < upTo e j k := by
  apply Finset.card_lt_card
  refine ⟨fun a ha => ?_, fun h => ?_⟩
  · simp only [Finset.mem_filter, Finset.mem_univ, true_and] at ha ⊢
    exact ⟨ha.1.trans hij.le, ha.2⟩
  · have := h (show j ∈ _ by simp [hj])
    simp only [Finset.mem_filter, Finset.mem_univ, true_and] at this
    exact absurd this.1 (not_le.2 hij)

/-- Tokens of one expert with one place are one token. -/
theorem upTo_inj {i j : Fin n} {k : α} (hi : e i = k) (hj : e j = k) (h : upTo e i k = upTo e j k) : i = j := by
  rcases lt_trichotomy i j with hl | he | hl
  · exact absurd h (upTo_lt e hj hl).ne
  · exact he
  · exact absurd h (upTo_lt e hi hl).ne'

/-- A token's place is one more than the number of earlier tokens of its expert. -/
theorem upTo_self (i : Fin n) : upTo e i (e i) = (Finset.univ.filter fun j => j < i ∧ e j = e i).card + 1 := by
  have : (Finset.univ.filter fun j => j ≤ i ∧ e j = e i) = insert i (Finset.univ.filter fun j => j < i ∧ e j = e i) := by
    ext j
    simp only [Finset.mem_filter, Finset.mem_univ, true_and, Finset.mem_insert, le_iff_lt_or_eq]
    constructor
    · rintro ⟨h | h, h'⟩
      · exact Or.inr ⟨h, h'⟩
      · exact Or.inl h
    · rintro (rfl | ⟨h, h'⟩)
      · exact ⟨Or.inr rfl, rfl⟩
      · exact ⟨Or.inl h, h'⟩
  rw [upTo, this, Finset.card_insert_of_notMem (by simp)]

/-- The sum over all tokens of "not after `i`" times "chose `k`", as zeros and ones, is `upTo`. -/
theorem sum_upTo (i : Fin n) (k : α) :
    (∑ j, (if j ≤ i then (1 : EReal) else 0) * (if e j = k then 1 else 0)) = ((upTo e i k : ℕ) : EReal) := by
  rw [upTo, ← Finset.sum_boole]
  refine Finset.sum_congr rfl fun j _ => ?_
  by_cases h : j ≤ i <;> by_cases h' : e j = k <;> simp [h, h']

/-- A sum of which every term but one is zero, over the extended reals: the weight one picks its term. -/
theorem sum_pick {ι : Type} [Fintype ι] [DecidableEq ι] (p : ι → Prop) [DecidablePred p] (f : ι → EReal) (a : ι)
    (h : ∀ i, p i ↔ i = a) : (∑ i, (if p i then (1 : EReal) else 0) * f i) = f a := by
  rw [Finset.sum_eq_single a (fun b _ hb => by rw [if_neg (fun hp => hb ((h b).1 hp)), zero_mul]) (fun ha => absurd (Finset.mem_univ a) ha),
    if_pos ((h a).2 rfl), one_mul]

/-- A sum of terms with weight zero is zero. -/
theorem sum_none {ι : Type} [Fintype ι] (p : ι → Prop) [DecidablePred p] (f : ι → EReal) (h : ∀ i, ¬ p i) :
    (∑ i, (if p i then (1 : EReal) else 0) * f i) = 0 :=
  Finset.sum_eq_zero fun i _ => by rw [if_neg (h i), zero_mul]

end Cert.Moe

end
-- ==== Proof.Payloads.lean ====
/-
# What the kernel's pieces compute, element by element

Over the extended reals: the kernel's zero-and-one matrices are conditions, its running counts are `upTo`, and its
products are sums over the contracted coordinate.
-/
module

public import proofs.«01_k».proof.Proof.Tally
public import proofs.«01_k».proof.Proof.Gen.KernelIdeal.Skeleton
public import Idealize.ShloMosaic.Lib.Pointwise

@[expose] public section

set_option maxRecDepth 16384

noncomputable section

namespace Cert.Moe

open Cert.KernelIdeal Cert.KernelIdeal.Gen
open Idealize.ShloMosaic
open scoped BigOperators

/-! ## Words as numbers -/

/-- A condition widened to a word and converted is one where it holds and zero elsewhere. -/
theorem bit_float (p : Prop) [Decidable p] :
    (FloatOps.sitofp .f32 (BitVec.setWidth 32 (BitVec.ofBool (decide p))) : Ideal .f32) = if p then 1 else 0 := by
  by_cases h : p <;> simp [h, FloatOps.sitofp]

/-- The equality of two words as a number. -/
theorem eq_float (a b : BitVec 32) :
    (FloatOps.sitofp .f32 (BitVec.setWidth 32 (IntOp.cmpi .eq a b)) : Ideal .f32) = if a = b then 1 else 0 := by
  rw [← bit_float]; congr 3

/-- A small natural number's word is that number. -/
theorem nat_float (k : Nat) (hk : k < 2 ^ 31) : (FloatOps.sitofp .f32 (BitVec.ofNat 32 k) : Ideal .f32) = ((k : ℕ) : EReal) := by
  have : (BitVec.ofNat 32 k).toInt = (k : Int) := by
    rw [BitVec.toInt_eq_toNat_of_lt (by rw [BitVec.toNat_ofNat]; omega), BitVec.toNat_ofNat, Nat.mod_eq_of_lt (by omega)]
  show (((BitVec.ofNat 32 k).toInt : ℝ) : EReal) = _
  rw [this]; norm_num

/-- The comparison of two small numbers' words is the numbers'. -/
theorem sge_nat {a b : Nat} (ha : a < 2 ^ 31) (hb : b < 2 ^ 31) :
    IntOp.cmpi .sge (BitVec.ofNat 32 a) (BitVec.ofNat 32 b) = BitVec.ofBool (decide (b ≤ a)) := by
  have h (k : Nat) (hk : k < 2 ^ 31) : (BitVec.ofNat 32 k).toInt = (k : Int) := by
    rw [BitVec.toInt_eq_toNat_of_lt (by rw [BitVec.toNat_ofNat]; omega), BitVec.toNat_ofNat, Nat.mod_eq_of_lt (by omega)]
  show BitVec.ofBool ((BitVec.ofNat 32 b).sle (BitVec.ofNat 32 a)) = _
  rw [BitVec.sle, h a ha, h b hb]
  simp

/-- The float word of the kernel's three is 3. -/
theorem three_f32 : Ideal.ofBits .f32 1077936128#32 = 3 := by
  simp [Ideal.ofBits, Ideal.ieee]
  rw [← EReal.coe_mul]; norm_num; try rfl
/-- The float word of the kernel's four is 4. -/
theorem four_f32 : Ideal.ofBits .f32 1082130432#32 = 4 := by
  simp [Ideal.ofBits, Ideal.ieee]
  rw [← EReal.coe_mul]; norm_num; try rfl
/-- The float word of the kernel's minus one is -1. -/
theorem neg_one_f32 : Ideal.ofBits .f32 3212836864#32 = -1 := by
  simp [Ideal.ofBits, Ideal.ieee]
  rw [← EReal.coe_mul]; norm_num; try rfl

/-! ## The masks and the counts -/

/-- The experts that the tokens chose. -/
def tok (e : Vec Ideal S256x1 .i32) (i : Fin 256) : BitVec 32 := e (ix2 i 0)

/-- The triangular mask: one at `(i, j)` where `j ≤ i`. -/
theorem pay4_apply (i j : Fin 256) : (k0_pay4 : FVec Ideal S256x256 .f32) (ix2 i j) = if j ≤ i then 1 else 0 := by
  pointwise [k0_pay4]
  rw [sge_nat (by omega) (by omega), bit_float]; rfl

/-- A device's mask: one where the token chose the device's expert `s`. -/
theorem pay3_apply (v : BitVec 32) (e : Vec Ideal S256x1 .i32) (i : Fin 256) (s : Fin 2) :
    k0_pay3 v e (ix2 i s) = if tok e i = 2#32 * v + BitVec.ofNat 32 s then (1 : EReal) else 0 := by
  pointwise [k0_pay3, k0_pay2]
  exact eq_float _ _

/-- The column of a slot: slots `0 … 3` are the first expert's, `4 … 7` the second's. -/
def half (t : Fin 8) : Fin 2 := ⟨t / 4, by omega⟩

/-- The count of a slot at a token: how many tokens up to it chose the slot's expert. -/
theorem pay5_apply (v : BitVec 32) (e : Vec Ideal S256x1 .i32) (i : Fin 256) (t : Fin 8) :
    k0_pay5 v e (ix2 i t) = ((upTo (tok e) i (2#32 * v + BitVec.ofNat 32 (half t)) : ℕ) : EReal) := by
  have h : k0_pay5 v e (ix2 i t) = ∑ j, (k0_pay4 (F := Ideal) (ix2 i j) : EReal) * k0_pay3 v e (ix2 j (half t)) := by
    pointwise [k0_pay5]
    fin_cases t <;> rfl
  rw [h, ← sum_upTo]
  exact Finset.sum_congr rfl fun j _ => by rw [pay4_apply, pay3_apply]

/-- The mask of a slot. -/
theorem pay6_apply (v : BitVec 32) (e : Vec Ideal S256x1 .i32) (i : Fin 256) (t : Fin 8) :
    k0_pay6 v e (ix2 i t) = if tok e i = 2#32 * v + BitVec.ofNat 32 (half t) then (1 : EReal) else 0 := by
  rw [← pay3_apply]
  pointwise [k0_pay6]
  fin_cases t <;> rfl

/-! ## A device's block -/

/-- The place that a slot takes: one, two, three, and none for the fourth slot of an expert. -/
def place (t : Fin 8) : Nat := if t.val % 4 < 3 then t.val % 4 + 1 else 0

/-- A block of slots from its counts `a`, its masks `b`, the tokens' rows and the two experts' matrices: the row whose count is
    the slot's place, times the expert's matrix. -/
theorem pay7_apply (a b : FVec Ideal S256x8 .f32) (x : Vec Ideal S256x128 .f32) (w0 w1 : Vec Ideal S1x128x256 .f32) (t : Fin 8) (h : Fin 256) :
    k0_pay7 a b (iota .tc S1x8 32 [1] iota_S1x8_d1_w32) 4#32 (Scalar.cmpi .eq 4#32 0#32) x w0 w1 (ix2 t h)
      = ∑ d : Fin 128, (∑ i : Fin 256, (if a (ix2 i t) = ((place t : ℕ) : EReal) then b (ix2 i t) else 0) * x (ix2 i d))
          * (if t.val < 4 then w0 (ix3 0 d h) else w1 (ix3 0 d h)) := by
  pointwise [k0_pay7]
  have hp : ((place t : ℕ) : EReal) = (FloatOps.sitofp .f32 (BitVec.ofNat 32 (place t)) : Ideal .f32) :=
    (nat_float _ (by unfold place; split <;> omega)).symm
  rw [hp]
  by_cases ht : t.val < 4
  · simp only [ht, if_true, dif_pos]
    refine Finset.sum_congr rfl fun d _ => congrArg₂ (· * ·) (Finset.sum_congr rfl fun i _ => congrArg₂ (· * ·) ?_ rfl) rfl
    refine if_congr (Iff.of_eq (congrArg (a (ix2 i t) = ·) (congrArg _ ?_))) rfl rfl
    clear * -; revert t; decide
  · have e4 : 4 + (t.val - 4) = t.val := by omega
    simp only [ht, if_false, dif_neg, e4, not_false_eq_true]
    refine Finset.sum_congr rfl fun d _ => congrArg₂ (· * ·) (Finset.sum_congr rfl fun i _ => congrArg₂ (· * ·) ?_ rfl) rfl
    refine if_congr (Iff.of_eq (congrArg (a (ix2 i t) = ·) (congrArg _ ?_))) rfl rfl
    clear * -; revert t; decide

/-! ## Where the rows go -/

/-- One where token `i` is one of the first three of expert `k`. -/
def keep (e : Vec Ideal S256x1 .i32) (i : Fin 256) (k : Fin 64) : EReal :=
  if ((upTo (tok e) i (BitVec.ofNat 32 k) : ℕ) : EReal) ≤ 3 then (if tok e i = BitVec.ofNat 32 k then 1 else 0) else 0

/-- The row of the gathered blocks that token `i` takes, minus one where it takes none. -/
def goal (e : Vec Ideal S256x1 .i32) (i : Fin 256) : EReal :=
  if 0 < ∑ k, keep e i k then ∑ k : Fin 64, keep e i k * (4 * ((k.val : ℕ) : EReal) + ((upTo (tok e) i (BitVec.ofNat 32 k) : ℕ) : EReal) - 1) else -1

/-- The choice matrix: one where row `r` is the row that token `i` takes. -/
theorem pay9_apply (e : Vec Ideal S256x1 .i32) (i r : Fin 256) :
    k0_pay9 (F := Ideal) (k0_pay2 e) k0_pay4 (iota .tc S256x64 32 [1] iota_S256x64_d1_w32) (ix2 i r) = if goal e i = ((r.val : ℕ) : EReal) then (1 : EReal) else 0 := by
  pointwise [k0_pay9, k0_pay2]
  rw [bit_float]
  have hc (k : Fin 64) : (∑ j : Fin 256, (k0_pay4 (F := Ideal) (ix2 i j) : EReal)
        * if e (ix2 j 0) = BitVec.ofNat 32 k then (1 : EReal) else 0)
      = ((upTo (tok e) i (BitVec.ofNat 32 k) : ℕ) : EReal) := by
    rw [← sum_upTo]
    exact Finset.sum_congr rfl fun j _ => by rw [pay4_apply]; rfl
  simp only [eq_float, three_f32, four_f32, neg_one_f32, hc]
  simp only [nat_float _ (show (r : Nat) < 2 ^ 31 by omega)]
  have hk (k : Fin 64) : (FloatOps.sitofp .f32 (BitVec.ofNat 32 k.val) : Ideal .f32) = ((k.val : ℕ) : EReal) := nat_float _ (by omega)
  simp only [hk]
  rfl

/-- The last product. -/
theorem pay1_apply (a b : FVec Ideal S256x256 .f32) (i r : Fin 256) : k0_pay1 a b (ix2 i r) = ∑ k : Fin 256, (a (ix2 i k) : EReal) * b (ix2 k r) := by
  pointwise [k0_pay1]

end Cert.Moe

end
-- ==== Proof.Routing.lean ====
/-
# Which row a token takes

A token that names an expert and is one of its first three takes that expert's row of its place; any other token takes
none.
-/
module

public import proofs.«01_k».proof.Proof.Payloads

@[expose] public section

set_option maxRecDepth 16384

noncomputable section

namespace Cert.Moe

open Cert.KernelIdeal Cert.KernelIdeal.Gen
open Idealize.ShloMosaic
open scoped BigOperators

variable (e : Vec Ideal S256x1 .i32)

/-- The words of the experts are different. -/
theorem word_inj {k k' : Fin 64} (h : BitVec.ofNat 32 k.val = BitVec.ofNat 32 k'.val) : k = k' := by
  have := congrArg BitVec.toNat h
  simp only [BitVec.toNat_ofNat] at this
  exact Fin.ext (by omega)

/-- A natural number is at most three as an extended real exactly if it is. -/
theorem cast_le_three (u : Nat) : ((u : ℕ) : EReal) ≤ 3 ↔ u ≤ 3 := by
  exact_mod_cast (Nat.cast_le (α := EReal) (m := u) (n := 3))

/-- Token `i` is one of the first three of expert `k`. -/
def Taken (i : Fin 256) (k : Fin 64) : Prop := tok e i = BitVec.ofNat 32 k ∧ upTo (tok e) i (BitVec.ofNat 32 k) ≤ 3

instance (i : Fin 256) (k : Fin 64) : Decidable (Taken e i k) := inferInstanceAs (Decidable (_ ∧ _))

/-- The kernel's mask is one where the expert takes the token and zero elsewhere. -/
theorem keep_eq (i : Fin 256) (k : Fin 64) : keep e i k = if Taken e i k then 1 else 0 := by
  unfold keep Taken
  simp only [cast_le_three]
  by_cases h : tok e i = BitVec.ofNat 32 k <;> by_cases h' : upTo (tok e) i (BitVec.ofNat 32 k) ≤ 3 <;> simp [h, h']

/-- A token is taken by one expert only. -/
theorem taken_iff {i : Fin 256} {k₀ : Fin 64} (h : Taken e i k₀) (k : Fin 64) : Taken e i k ↔ k = k₀ :=
  ⟨fun hk => word_inj (hk.1.symm.trans h.1), fun hk => hk ▸ h⟩

/-- The row of a taken token. -/
theorem goal_taken {i : Fin 256} {k : Fin 64} (h : Taken e i k) :
    goal e i = ((4 * k.val + upTo (tok e) i (BitVec.ofNat 32 k) - 1 : ℕ) : EReal) := by
  have hs : (∑ k, keep e i k) = 1 := by
    have := sum_pick (fun k' => Taken e i k') (fun _ => 1) k (taken_iff e h)
    simpa only [keep_eq, mul_one] using this
  unfold goal
  rw [hs, if_pos zero_lt_one]
  simp only [keep_eq]
  rw [sum_pick (fun k' => Taken e i k') _ k (taken_iff e h)]
  have h1 := one_le_upTo (tok e) h.1
  generalize upTo (tok e) i (BitVec.ofNat 32 k) = u at *
  obtain ⟨u, rfl⟩ : ∃ u', u = u' + 1 := ⟨u - 1, by omega⟩
  rw [show 4 * k.val + (u + 1) - 1 = 4 * k.val + u from rfl]
  have e1 : ((k.val : ℕ) : EReal) = ((k.val : ℝ) : EReal) := rfl
  have e2 : ((u + 1 : ℕ) : EReal) = (((u + 1 : ℕ) : ℝ) : EReal) := rfl
  have e3 : ((4 * k.val + u : ℕ) : EReal) = (((4 * k.val + u : ℕ) : ℝ) : EReal) := rfl
  have e4 : (4 : EReal) = ((4 : ℝ) : EReal) := rfl
  have e5 : (1 : EReal) = ((1 : ℝ) : EReal) := rfl
  rw [e1, e2, e3, e4, e5, ← EReal.coe_mul, ← EReal.coe_add, ← EReal.coe_sub]
  congr 1
  push_cast
  ring

/-- A token that no expert takes has no row. -/
theorem goal_none {i : Fin 256} (h : ∀ k, ¬ Taken e i k) : goal e i = -1 := by
  unfold goal
  rw [if_neg]
  have : (∑ k, keep e i k) = 0 := Finset.sum_eq_zero fun k _ => by rw [keep_eq, if_neg (h k)]
  rw [this]; exact lt_irrefl _

/-- No row has the number minus one. -/
theorem neg_one_ne (r : Nat) : (-1 : EReal) ≠ ((r : ℕ) : EReal) := by
  have e5 : (-1 : EReal) = ((-1 : ℝ) : EReal) := rfl
  have e1 : ((r : ℕ) : EReal) = ((r : ℝ) : EReal) := rfl
  rw [e5, e1]
  intro h
  have := EReal.coe_injective h
  have : (0 : ℝ) ≤ r := Nat.cast_nonneg r
  linarith

/-- The product with the choice matrix is, at a taken token, the row it takes. -/
theorem out_taken (g : FVec Ideal S256x256 .f32) {i : Fin 256} {k : Fin 64} (h : Taken e i k) (j : Fin 256) (r : Fin 256)
    (hr : r.val = 4 * k.val + upTo (tok e) i (BitVec.ofNat 32 k) - 1) :
    k0_pay1 (k0_pay9 (F := Ideal) (k0_pay2 e) k0_pay4 (iota .tc S256x64 32 [1] iota_S256x64_d1_w32)) g (ix2 i j) = g (ix2 r j) := by
  rw [pay1_apply]
  refine (Finset.sum_congr rfl fun r' _ => congrArg (· * g (ix2 r' j)) ((pay9_apply e i r').trans (by rw [goal_taken e h]))).trans ?_
  refine sum_pick (fun r' : Fin 256 => ((4 * k.val + upTo (tok e) i (BitVec.ofNat 32 k) - 1 : ℕ) : EReal) = ((r'.val : ℕ) : EReal)) (fun r' => g (ix2 r' j)) r fun r' => ?_
  rw [← hr]
  exact ⟨fun h => Fin.ext (Nat.cast_injective (R := EReal) h).symm, fun h => by rw [h]⟩

/-- The product with the choice matrix is zero at a token that no expert takes. -/
theorem out_none (g : FVec Ideal S256x256 .f32) {i : Fin 256} (h : ∀ k, ¬ Taken e i k) (j : Fin 256) :
    k0_pay1 (k0_pay9 (F := Ideal) (k0_pay2 e) k0_pay4 (iota .tc S256x64 32 [1] iota_S256x64_d1_w32)) g (ix2 i j) = (0 : EReal) := by
  rw [pay1_apply]
  refine (Finset.sum_congr rfl fun r' _ => congrArg (· * g (ix2 r' j)) ((pay9_apply e i r').trans (by rw [goal_none e h]))).trans ?_
  exact sum_none (fun r' : Fin 256 => (-1 : EReal) = ((r'.val : ℕ) : EReal)) (fun r' => g (ix2 r' j)) fun r' => neg_one_ne _

/-- A slot's row of gathered tokens: the token that has the slot's place at the slot's expert. -/
theorem slot_sum (v : BitVec 32) (x : FVec Ideal S256x128 .f32) (t : Fin 8) {i : Fin 256} (d : Fin 128) {κ : BitVec 32}
    (hκ : 2#32 * v + BitVec.ofNat 32 (half t) = κ) (hi : tok e i = κ) (hp : upTo (tok e) i κ = place t) :
    (∑ i' : Fin 256, (if (k0_pay5 v e (ix2 i' t) : EReal) = ((place t : ℕ) : EReal) then (k0_pay6 v e (ix2 i' t) : EReal) else 0) * x (ix2 i' d))
      = x (ix2 i d) := by
  simp only [pay5_apply, pay6_apply, hκ]
  rw [← sum_pick (fun i' => tok e i' = κ ∧ upTo (tok e) i' κ = place t) (fun i' => x (ix2 i' d)) i fun i' =>
    ⟨fun h => upTo_inj (tok e) h.1 hi (h.2.trans hp.symm), fun h => h ▸ ⟨hi, hp⟩⟩]
  refine Finset.sum_congr rfl fun i' _ => congrArg (· * _) ?_
  by_cases h : tok e i' = κ <;> by_cases h' : upTo (tok e) i' κ = place t <;> simp [h, h']

end Cert.Moe

end
-- ==== Proof.Value.lean ====
/-
# The kernel's result

When the devices hold one array of tokens, one array of expert indices, and their own two experts' matrices, every device's
result has at a taken token its row times its expert's matrix, and zero at any other token.
-/
module

public import proofs.«01_k».proof.Proof.Arrays
public import proofs.«01_k».proof.Proof.Routing
public import Idealize.ShloMosaic.Lib.Layout

@[expose] public section

set_option maxRecDepth 16384

noncomputable section

namespace Cert.Moe

open Cert.KernelIdeal Cert.KernelIdeal.Gen
open Idealize.ShloMosaic Idealize.ShloMosaic.TcCoe
open scoped BigOperators

/-- The word of a device's own half of the experts. -/
theorem expert_word (c : Dev nD) (s : Fin 2) : 2#32 * devWord c + BitVec.ofNat 32 s = BitVec.ofNat 32 (2 * c.val + s.val) := by
  revert c s; decide +kernel

/-- The rows of a device's first four slots use its first expert's matrix and the others its second's. -/
theorem slot_weight (Wt : Vec Ideal ⟨3, ![64, 128, 256]⟩ .f32) (c : Fin 32) (k : Fin 64) (t : Fin 8) (hk : k.val = 2 * c.val + t.val / 4)
    (h3 : Layout.Tiles ⟨3, ![2, 128, 256]⟩ ⟨3, ![64, 128, 256]⟩ 0 32) (d : Fin 128) (h : Fin 256) :
    (if t.val < 4 then Layout.block ⟨3, ![2, 128, 256]⟩ ⟨3, ![64, 128, 256]⟩ 0 32 c Wt h3 (ix3 (n0 := 2) (n1 := 128) (n2 := 256) 0 d h)
      else Layout.block ⟨3, ![2, 128, 256]⟩ ⟨3, ![64, 128, 256]⟩ 0 32 c Wt h3 (ix3 (n0 := 2) (n1 := 128) (n2 := 256) 1 d h)) = Wt (ix3 k d h) := by
  split
  all_goals
    refine congrArg Wt (funext fun a => Fin.ext ?_)
    rw [Layout.Tiles.idx_val]
    fin_cases a
    · refine Eq.trans (if_pos rfl) ?_
      show c.val * 2 + _ = k.val
      first
        | (show c.val * 2 + 0 = k.val; omega)
        | (show c.val * 2 + 1 = k.val; omega)
    · exact if_neg Nat.one_ne_zero
    · exact if_neg (Nat.succ_ne_zero 1)

variable (m : (ℓ : Loc nD τ sig) → Buf (Elt Ideal) ℓ)
variable (X : Vec Ideal S256x128 .f32) (E : Vec Ideal S256x1 .i32) (Wt : Vec Ideal ⟨3, ![64, 128, 256]⟩ .f32)

/-- What every device is launched with. -/
structure Given : Prop where
  x : ∀ c : Dev nD, m ((c : Thread nD τ).loc main_arg0) = X
  e : ∀ c : Dev nD, m ((c : Thread nD τ).loc main_arg2) = E
  w : ∀ c : Dev nD, m ((c : Thread nD τ).loc main_arg3) = Layout.block ⟨3, ![2, 128, 256]⟩ ⟨3, ![64, 128, 256]⟩ 0 32 c Wt

variable {m X E Wt}

/-- A slot of a device: the token of the slot's place at the slot's expert, times the expert's matrix. -/
theorem chunk_apply (g : Given m X E Wt) (c : Dev nD) (t : Fin 8) (h : Fin 256) {i : Fin 256} {k : Fin 64}
    (hk : k.val = 2 * c.val + t.val / 4) (hi : tok E i = BitVec.ofNat 32 k) (hp : upTo (tok E) i (BitVec.ofNat 32 k) = place t) :
    chunk m c (ix2 t h) = ∑ d : Fin 128, X (ix2 i d) * Wt (ix3 k d h) := by
  have e8 : ∀ v : FVec Ideal S8x256 .f32, k0_pay8 v = v := fun v => shapeCast_self v _
  unfold chunk
  rw [e8, pay7_apply, xstg_eq, estg_eq, wstg_eq, g.x, g.e, g.w]
  refine Finset.sum_congr rfl fun d _ => congrArg₂ (· * ·) ?_ ?_
  · exact slot_sum E (devWord c) X t d ((expert_word c (half t)).trans (congrArg (BitVec.ofNat 32) hk.symm)) hi hp
  · rw [w0_read, w1_read]
    exact slot_weight Wt c k t hk _ d h

/-- The result at a token that expert `k` takes. -/
theorem outAt_taken (g : Given m X E Wt) (c : Dev nD) {i : Fin 256} {k : Fin 64} (hk : Taken E i k) (h : Fin 256) :
    outAt m c (ix2 i h) = ∑ d : Fin 128, X (ix2 i d) * Wt (ix3 k d h) := by
  have h1 := one_le_upTo (tok E) hk.1
  have h3 := hk.2
  have h4 := k.isLt
  obtain ⟨u, hu⟩ := Nat.exists_eq_add_of_le' h1
  unfold outAt
  rw [estg_eq, g.e, out_taken E (gath m) hk h ⟨4 * k.val + u, by omega⟩ (by rw [hu]; rfl)]
  show chunk m ⟨(4 * k.val + u) / 8 % 32, _⟩ (ix2 ⟨(4 * k.val + u) % 8, _⟩ h) = _
  refine chunk_apply g _ _ h ?_ hk.1 ?_
  · show k.val = 2 * ((4 * k.val + u) / 8 % 32) + (4 * k.val + u) % 8 / 4
    omega
  · rw [hu]
    unfold place
    show u + 1 = if (4 * k.val + u) % 8 % 4 < 3 then (4 * k.val + u) % 8 % 4 + 1 else 0
    rw [if_pos] <;> omega

/-- The result at a token that no expert takes. -/
theorem outAt_none (g : Given m X E Wt) (c : Dev nD) {i : Fin 256} (hk : ∀ k, ¬ Taken E i k) (h : Fin 256) :
    outAt m c (ix2 i h) = (0 : EReal) := by
  unfold outAt
  rw [estg_eq, g.e]
  exact out_none E (gath m) hk h

end Cert.Moe

end
-- ==== Proof.RefValue.lean ====
/-
# The reference's result

The reference's composed term, read at one entry.
-/
module

public import proofs.«01_k».proof.Proof.Routing
public import proofs.«01_k».proof.Proof.Gen.ReferenceIdeal.Run
public import Idealize.ShloMosaic.Lib.IndicatorCount

@[expose] public section

set_option maxRecDepth 16384

noncomputable section

namespace Cert.Moe

open Cert.ReferenceIdeal Cert.ReferenceIdeal.Gen
open Idealize.ShloMosaic
open scoped BigOperators

variable (X : Vec Ideal S256x128 .f32) (E : Vec Ideal S256x1 .i32) (Wt : Vec Ideal S64x128x256 .f32)

/-- The words that count, for each token, the tokens before it that name the same expert. -/
def priors : Vec Ideal S256 .i32 :=
  Host.reduce IntOp.addi (extui 32 (andi (cmpi .slt (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (iotaInDim S256 32 0)))) (cmpi .eq (broadcastInDim S256x256 ![0, 1] bcast_S1x256_S256x256_0_1 (broadcastInDim S1x256 ![1] bcast_S256_S1x256_1 (shapeCast _ E shapeCasts_S256x1_S256))) (broadcastInDim S256x256 ![0, 1] bcast_S256x1_S256x256_0_1 (broadcastInDim S256x1 ![0] bcast_S256_S256x1_0 (shapeCast _ E shapeCasts_S256x1_S256))))) natLt_1_32) (constantI S_ 32 0#32) reducesTo_S256x256_S256_d1 h_S_

/-- Which tokens the reference keeps. -/
def kept : Vec Ideal S256 .i1 :=
  andi (andi (cmpi .slt (priors E) (broadcastInDim S256 ![] bcast_S_S256 (constantI S_ 32 3#32))) (cmpi .sge (shapeCast _ E shapeCasts_S256x1_S256) (broadcastInDim S256 ![] bcast_S_S256 (constantI S_ 32 0#32)))) (cmpi .slt (shapeCast _ E shapeCasts_S256x1_S256) (broadcastInDim S256 ![] bcast_S_S256 (constantI S_ 32 64#32)))

/-- The matrix the reference takes for each token. -/
def picked : Vec Ideal S256x128x256 .f32 :=
  Host.gather gather_S64x128x256_S256x1_S256x128x256_12_0_n_n_0_1_1128256 Wt (broadcastInDim S256x1 ![0] bcast_S256_S256x1_0 (select (cmpi .slt (shapeCast _ E shapeCasts_S256x1_S256) (broadcastInDim S256 ![] bcast_S_S256 (constantI S_ 32 0#32))) (addi (shapeCast _ E shapeCasts_S256x1_S256) (broadcastInDim S256 ![] bcast_S_S256 (constantI S_ 32 64#32))) (shapeCast _ E shapeCasts_S256x1_S256)))

/-- The reference's result. -/
def refOut : FVec Ideal S256x256 .f32 :=
  select (broadcastInDim S256x256 ![0, 1] bcast_S256x1_S256x256_0_1 (broadcastInDim S256x1 ![0] bcast_S256_S256x1_0 (kept E))) (Host.dotGeneral (F := Ideal) (φ₁ := .f32) (φ₂ := .f32) dot_S256x128_S256x128x256_S256x256_1_1_n_2_0_0 none X (picked E Wt)) (broadcastInDim S256x256 ![] bcast_S_S256x256 (id (constant (F := Ideal) S_ .f32 0x00000000#32)))

/-- A conjunction of two bits is one exactly if both are. -/
theorem andi_one (a b : BitVec 1) : IntOp.andi a b = 1#1 ↔ a = 1#1 ∧ b = 1#1 := by
  revert a b; decide

/-- A condition's bit is one exactly if it holds. -/
theorem bit_one (p : Prop) [Decidable p] : BitVec.ofBool (decide p) = 1#1 ↔ p := by
  by_cases h : p <;> simp [h]

/-- The equality bit of two words. -/
theorem eq_bit (a b : BitVec 32) : IntOp.cmpi .eq a b = 1#1 ↔ a = b := by
  show BitVec.ofBool (decide (a = b)) = 1#1 ↔ a = b
  exact bit_one _

/-- The order bit of two small numbers. -/
theorem slt_small {a b : Nat} (ha : a < 2 ^ 31) (hb : b < 2 ^ 31) :
    IntOp.cmpi .slt (BitVec.ofNat 32 a) (BitVec.ofNat 32 b) = 1#1 ↔ a < b := by
  have h (k : Nat) (hk : k < 2 ^ 31) : (BitVec.ofNat 32 k).toInt = (k : Int) := by
    rw [BitVec.toInt_eq_toNat_of_lt (by rw [BitVec.toNat_ofNat]; omega), BitVec.toNat_ofNat, Nat.mod_eq_of_lt (by omega)]
  show BitVec.ofBool ((BitVec.ofNat 32 a).slt (BitVec.ofNat 32 b)) = 1#1 ↔ _
  rw [BitVec.slt, h a ha, h b hb, bit_one, Int.ofNat_lt]

/-- A word is a number of an expert exactly if it is from 0 to 63 as a signed number. -/
theorem in_range (x : BitVec 32) :
    (IntOp.cmpi .sge x 0#32 = 1#1 ∧ IntOp.cmpi .slt x 64#32 = 1#1) ↔ ∃ k : Fin 64, x = BitVec.ofNat 32 k := by
  have h64 : (64#32).toInt = 64 := by decide
  have h0 : (0#32).toInt = 0 := by decide
  have e : (IntOp.cmpi .sge x 0#32 = 1#1 ∧ IntOp.cmpi .slt x 64#32 = 1#1) ↔ 0 ≤ x.toInt ∧ x.toInt < 64 := by
    show (BitVec.ofBool ((0#32).sle x) = 1#1 ∧ BitVec.ofBool (x.slt 64#32) = 1#1) ↔ _
    rw [BitVec.sle, BitVec.slt, h64, h0, bit_one, bit_one]
  rw [e]
  constructor
  · rintro ⟨h1, h2⟩
    refine ⟨⟨x.toInt.toNat, by omega⟩, BitVec.eq_of_toInt_eq ?_⟩
    show x.toInt = (BitVec.ofNat 32 x.toInt.toNat).toInt
    rw [BitVec.toInt_eq_toNat_of_lt (x := BitVec.ofNat 32 x.toInt.toNat) (by rw [BitVec.toNat_ofNat]; omega), BitVec.toNat_ofNat,
      Nat.mod_eq_of_lt (by omega)]
    omega
  · rintro ⟨k, rfl⟩
    rw [BitVec.toInt_eq_toNat_of_lt (by rw [BitVec.toNat_ofNat]; omega), BitVec.toNat_ofNat, Nat.mod_eq_of_lt (by omega)]
    omega

/-- A token's count word is the number of earlier tokens that name its expert. -/
theorem priors_apply (i : Fin 256) :
    priors E (ix1 i) = BitVec.ofNat 32 (Finset.univ.filter fun j : Fin 256 => j < i ∧ tok E j = tok E i).card := by
  pointwise [priors]
  rw [IndicatorCount.fold_addi_setWidth_eq_card]
  refine congrArg (fun S : Finset (Fin 256) => BitVec.ofNat 32 S.card) (Finset.filter_congr fun j _ => ?_)
  rw [andi_one, slt_small (by omega) (by omega)]
  refine and_congr Iff.rfl ?_
  exact eq_bit _ _

/-- The reference keeps a token exactly if an expert takes it. -/
theorem kept_apply (i : Fin 256) : kept E (ix1 i) = 1#1 ↔ ∃ k, Taken E i k := by
  pointwise [kept]
  rw [andi_one, andi_one, priors_apply, and_assoc]
  have hc : (Finset.univ.filter fun j : Fin 256 => j < i ∧ tok E j = tok E i).card < 2 ^ 31 :=
    lt_of_le_of_lt (Finset.card_le_univ _) (by rw [Fintype.card_fin]; decide)
  have hin : (IntOp.cmpi .sge (E (ix2 i 0)) 0#32 = 1#1 ∧ IntOp.cmpi .slt (E (ix2 i 0)) 64#32 = 1#1) ↔ ∃ k : Fin 64, tok E i = BitVec.ofNat 32 k :=
    in_range _
  refine (and_congr (slt_small (b := 3) hc (by decide)) hin).trans ?_
  have hu := upTo_self (tok E) i
  constructor
  · rintro ⟨h1, k, hk⟩
    exact ⟨k, hk, by rw [← hk, hu]; omega⟩
  · rintro ⟨k, hk, h1⟩
    rw [← hk, hu] at h1
    exact ⟨by omega, k, hk⟩

/-- The entry of the table of matrices that a row of indices picks. -/
theorem gather_entry (I : IVec S256x1 32) (i : Fin 256) (k : Fin 64) (hI : I (ix2 i 0) = BitVec.ofNat 32 k) (d : Fin 128) (h : Fin 256) :
    Host.gather gather_S64x128x256_S256x1_S256x128x256_12_0_n_n_0_1_1128256 Wt I (ix3 i d h) = Wt (ix3 k d h) := by
  have hm : (0 : Fin 3) ∈ (gather_S64x128x256_S256x1_S256x128x256_12_0_n_n_0_1_1128256 : GatherDims S64x128x256 S256x1 S256x128x256).startIndexMap :=
    List.mem_singleton.mpr rfl
  have hi : ∀ b, (gather_S64x128x256_S256x1_S256x128x256_12_0_n_n_0_1_1128256 : GatherDims S64x128x256 S256x1 S256x128x256).siIdx (ix3 i d h) ⟨_, List.idxOf_lt_length_iff.2 hm⟩ b = ix2 i 0 b :=
    fun b => Fin.ext (match b with | ⟨0, _⟩ => rfl | ⟨1, _⟩ => rfl)
  have hs : (gather_S64x128x256_S256x1_S256x128x256_12_0_n_n_0_1_1128256 : GatherDims S64x128x256 S256x1 S256x128x256).start (ix3 i d h) I (0 : Fin 3) = k.val := by
    unfold GatherDims.start
    refine (dif_pos hm).trans ((congrArg (fun x : BitVec 32 => min x.toInt.toNat 63) ((congrArg I (funext hi)).trans hI)).trans ?_)
    show min (BitVec.ofNat 32 k.val).toInt.toNat 63 = k.val
    rw [BitVec.toInt_eq_toNat_of_lt (by rw [BitVec.toNat_ofNat]; omega), BitVec.toNat_ofNat, Nat.mod_eq_of_lt (by omega), Int.toNat_natCast]
    exact Nat.min_eq_left (by omega)
  unfold Host.gather
  refine congrArg Wt (funext fun a => Fin.ext ?_)
  show GatherDims.start _ (ix3 i d h) I a + GatherDims.batchCoord _ (ix3 i d h) a + GatherDims.offCoord _ (ix3 i d h) a = _
  rw [GatherDims.batchCoord_eq_zero _ _ _ List.not_mem_nil, Nat.add_zero]
  match a with
  | ⟨0, _⟩ => exact (congrArg₂ (· + ·) hs rfl : _ = k.val + 0)
  | ⟨1, _⟩ => exact (congrArg₂ (· + ·) rfl rfl : _ = 0 + d.val).trans (Nat.zero_add _)
  | ⟨2, _⟩ => exact (congrArg₂ (· + ·) rfl rfl : _ = 0 + h.val).trans (Nat.zero_add _)

/-- The matrix of a token that names expert `k` is the expert's. -/
theorem picked_apply {i : Fin 256} {k : Fin 64} (hk : tok E i = BitVec.ofNat 32 k) (d : Fin 128) (h : Fin 256) :
    picked E Wt (ix3 i d h) = Wt (ix3 k d h) := by
  unfold picked
  refine gather_entry Wt _ i k ?_ d h
  pointwise
  have hk' : E (ix2 i 0) = BitVec.ofNat 32 k := hk
  rw [hk']
  have hn : ¬ IntOp.cmpi .slt (BitVec.ofNat 32 k.val) (BitVec.ofNat 32 0) = 1#1 := by
    rw [slt_small (by omega) (by omega)]; omega
  exact if_neg hn

/-- The reference's result at an entry: the product with the token's matrix where the token is kept. -/
theorem refOut_apply (i : Fin 256) (h : Fin 256) :
    refOut X E Wt (ix2 i h) = Scalar.select (kept E (ix1 i)) (∑ d : Fin 128, X (ix2 i d) * picked E Wt (ix3 i d h)) (0 : EReal) := by
  pointwise [refOut]
  refine congrArg _ (?_ : Ideal.ofBits .f32 0#32 = 0)
  simp [Ideal.ofBits, Ideal.ieee]

/-- The reference's result at a token that expert `k` takes. -/
theorem refOut_taken {i : Fin 256} {k : Fin 64} (hk : Taken E i k) (h : Fin 256) :
    refOut X E Wt (ix2 i h) = ∑ d : Fin 128, X (ix2 i d) * Wt (ix3 k d h) := by
  rw [refOut_apply, (kept_apply E i).mpr ⟨k, hk⟩]
  exact (if_pos rfl).trans <| Finset.sum_congr rfl fun d _ => congrArg (X (ix2 i d) * ·) (picked_apply E Wt hk.1 d h)

/-- The reference's result at a token that no expert takes. -/
theorem refOut_none {i : Fin 256} (hk : ∀ k, ¬ Taken E i k) (h : Fin 256) : refOut X E Wt (ix2 i h) = (0 : EReal) := by
  rw [refOut_apply]
  exact if_neg fun hb => (kept_apply E i).mp hb |>.elim hk

end Cert.Moe

end
-- ==== Proof.Algebraic.lean ====
/-
# The kernel's idealization computes the reference

Both results have, at a token that an expert takes, the token's row times the expert's matrix, and zero at any other token.
-/
module

public import proofs.«01_k».proof.Proof.Frames
public import proofs.«01_k».proof.Proof.Value
public import proofs.«01_k».proof.Proof.RefValue

@[expose] public section

set_option maxRecDepth 16384

noncomputable section

namespace Cert.Moe

open Cert.KernelIdeal Cert.KernelIdeal.Gen
open Idealize.ShloMosaic Idealize.ShloMosaic.TcCoe Idealize.SL.Sem

/-- Every device's result is the reference's. -/
theorem outAt_eq {m : (ℓ : Loc nD τ sig) → Buf (Elt Ideal) ℓ} {X : Vec Ideal S256x128 .f32} {E : Vec Ideal S256x1 .i32}
    {Wt : Vec Ideal ⟨3, ![64, 128, 256]⟩ .f32} (g : Given m X E Wt) (c : Dev nD) : outAt m c = refOut X E Wt := by
  funext y
  rw [eq_ix2 y]
  by_cases hk : ∃ k, Taken E (y 0) k
  · obtain ⟨k, hk⟩ := hk
    exact (outAt_taken g c hk (y 1)).trans (refOut_taken X E Wt hk (y 1)).symm
  · have hn : ∀ k, ¬ Taken E (y 0) k := fun k h => hk ⟨k, h⟩
    exact (outAt_none g c hn (y 1)).trans (refOut_none X E Wt hn (y 1)).symm

/-- From devices that hold the reference's tokens and expert indices and their own experts' matrices, every device's result
    is the reference's and the arguments are unchanged. -/
theorem algebraic : Cert.algebraic_KernelIdeal_ReferenceIdeal := fun m ρ m' ρ' _ h => by
  have g : Given m _ _ _ := ⟨fun c => (h c).1, fun c => (h c).2.2.1, fun c => (h c).2.2.2⟩
  refine ⟨refOut (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg2))
    (m' (((0 : Dev Cert.ReferenceIdeal.nD) : Thread Cert.ReferenceIdeal.nD Cert.ReferenceIdeal.τ).loc Cert.ReferenceIdeal.main_arg3)), ?_, ?_⟩
  · exact (θ_run defs _ _).mono
      (fun r hr c => ⟨((hr.1 c).1 3).trans ((final_out m c).trans (outAt_eq g c)), args_unchanged m c r.2 (hr.1 c)⟩) (run_main m ρ)
  · exact (θ_run Cert.ReferenceIdeal.defs _ _).mono (fun r hr => hr 0) (Cert.ReferenceIdeal.Value.run m' ρ')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Moe.frame_kernel, Cert.Moe.frame_ideal, Cert.Moe.frame_reference, trivial, Cert.Moe.algebraic⟩

end Cert.Proof

end
